-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S4x3x256x512 : Shape := ⟨4, ![4, 3, 256, 512]⟩
abbrev S4x3 : Shape := ⟨2, ![4, 3]⟩
abbrev S4 : Shape := ⟨1, ![4]⟩
abbrev S_ : Shape := ⟨0, ![]⟩
abbrev S256x256 : Shape := ⟨2, ![256, 256]⟩
abbrev S256x512 : Shape := ⟨2, ![256, 512]⟩
abbrev S1x1x256x512 : Shape := ⟨4, ![1, 1, 256, 512]⟩
abbrev S1x1 : Shape := ⟨2, ![1, 1]⟩
abbrev S256x1024 : Shape := ⟨2, ![256, 1024]⟩

abbrev nBuf : Space → Nat
  | .hbm => 5
  | .vmem => 6
  | .smem => 2
  | _ => 0

abbrev bufTy : (tb : Table) → Fin (tcTables nBuf tb) → BufTy
  | .hbm, ⟨0, _⟩ => ⟨S4096x256, .i8⟩
  | .hbm, ⟨1, _⟩ => ⟨S256x2048, .i8⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .i8⟩
  | .local _ .vmem, ⟨1, _⟩ => ⟨S256x2048, .i8⟩
  | .local _ .vmem, ⟨2, _⟩ => ⟨S256x2048, .f32⟩
  | .local _ .vmem, ⟨3, _⟩ => ⟨S4x3x256x512, .bf16⟩
  | .local _ .vmem, ⟨4, _⟩ => ⟨S256x2048, .bf16⟩
  | .local _ .vmem, ⟨5, _⟩ => ⟨S256x2048, .f32⟩
  | .local _ .smem, ⟨0, _⟩ => ⟨S1, .f32⟩
  | .local _ .smem, ⟨1, _⟩ => ⟨S1, .f32⟩
  | _, _ => ⟨S4096x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 5 29 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v19 : BitVec 32 := Scalar.subi v2 c1_i32_13
  let c32_i32 : BitVec 32 := 32#32
  let v20 : BitVec 32 := Scalar.addi v19 c32_i32
  let c16_i32_14 : BitVec 32 := 16#32
  let v21 : BitVec 32 := Scalar.remsi v20 c16_i32_14
  let c256_i32 : BitVec 32 := 256#32
  let v34 : BitVec 32 := Scalar.muli v21 c256_i32
  let v35 : Index := Scalar.indexCast v34
  let c0_26 : Index := 0#32
  ![v35.toNat, 0]
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_41 : BitVec 32 := 1#32
  let v45 : BitVec 32 := Scalar.muli v7 c1_i32_41
  let v46 : BitVec 32 := Scalar.addi c0_i32_42 v45
  v46.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v25 : BitVec 32 := Scalar.addi v2 c1_i32_18
  let c32_i32_19 : BitVec 32 := 32#32
  let v26 : BitVec 32 := Scalar.addi v25 c32_i32_19
  let c16_i32_20 : BitVec 32 := 16#32
  let v27 : BitVec 32 := Scalar.remsi v26 c16_i32_20
  let c256_i32_47 : BitVec 32 := 256#32
  let v55 : BitVec 32 := Scalar.muli v27 c256_i32_47
  let v56 : Index := Scalar.indexCast v55
  let c0_48 : Index := 0#32
  ![v56.toNat, 0]
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_62 : BitVec 32 := 1#32
  let v66 : BitVec 32 := Scalar.muli v5 c1_i32_62
  let v67 : BitVec 32 := Scalar.addi c0_i32_63 v66
  v67.toNat
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_83 : BitVec 32 := 1#32
  let v87 : BitVec 32 := Scalar.muli v7 c1_i32_83
  let v88 : BitVec 32 := Scalar.addi c0_i32_84 v87
  v88.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_103 : BitVec 32 := 1#32
  let v108 : BitVec 32 := Scalar.muli v5 c1_i32_103
  let v109 : BitVec 32 := Scalar.addi c0_i32_104 v108
  v109.toNat
def k0_off3 (d0 : Dev nD) (c0_i32_110 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_109 : BitVec 32 := 2#32
  let v118 : BitVec 32 := Scalar.subi v2 c2_i32_109
  let v119 : BitVec 32 := Scalar.subi v118 c0_i32_110
  let c32_i32_111 : BitVec 32 := 32#32
  let v120 : BitVec 32 := Scalar.addi v119 c32_i32_111
  let c16_i32_112 : BitVec 32 := 16#32
  let v121 : BitVec 32 := Scalar.remsi v120 c16_i32_112
  let c256_i32_117 : BitVec 32 := 256#32
  let v126 : BitVec 32 := Scalar.muli v121 c256_i32_117
  let v127 : Index := Scalar.indexCast v126
  let c0_118 : Index := 0#32
  ![v127.toNat, 0]
def k0_off4 (d0 : Dev nD) (c0_i32_114 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let v122 : BitVec 32 := Scalar.addi v2 c2_i32_113
  let v123 : BitVec 32 := Scalar.addi v122 c0_i32_114
  let c32_i32_115 : BitVec 32 := 32#32
  let v124 : BitVec 32 := Scalar.addi v123 c32_i32_115
  let c16_i32_116 : BitVec 32 := 16#32
  let v125 : BitVec 32 := Scalar.remsi v124 c16_i32_116
  let c256_i32_124 : BitVec 32 := 256#32
  let v136 : BitVec 32 := Scalar.muli v125 c256_i32_124
  let v137 : Index := Scalar.indexCast v136
  let c0_125 : Index := 0#32
  ![v137.toNat, 0]
def k0_dev7 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_163 : BitVec 32 := 1#32
  let v163 : BitVec 32 := Scalar.muli v7 c1_i32_163
  let v164 : BitVec 32 := Scalar.addi c0_i32_164 v163
  v164.toNat
def k0_dev8 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_201 : BitVec 32 := 1#32
  let v190 : BitVec 32 := Scalar.muli v5 c1_i32_201
  let v191 : BitVec 32 := Scalar.addi c0_i32_202 v190
  v191.toNat
def k0_dev9 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_239 : BitVec 32 := 1#32
  let v217 : BitVec 32 := Scalar.muli v7 c1_i32_239
  let v218 : BitVec 32 := Scalar.addi c0_i32_240 v217
  v218.toNat
def k0_dev10 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_277 : BitVec 32 := 1#32
  let v244 : BitVec 32 := Scalar.muli v5 c1_i32_277
  let v245 : BitVec 32 := Scalar.addi c0_i32_278 v244
  v245.toNat
def k0_dev11 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_298 : BitVec 32 := 1#32
  let v262 : BitVec 32 := Scalar.muli v5 c1_i32_298
  let v263 : BitVec 32 := Scalar.addi c0_i32_299 v262
  v263.toNat
def k0_dev12 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_315 : BitVec 32 := 1#32
  let v272 : BitVec 32 := Scalar.muli v7 c1_i32_315
  let v273 : BitVec 32 := Scalar.addi c0_i32_316 v272
  v273.toNat
def k0_dev13 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_332 : BitVec 32 := 1#32
  let v282 : BitVec 32 := Scalar.muli v5 c1_i32_332
  let v283 : BitVec 32 := Scalar.addi c0_i32_333 v282
  v283.toNat
def k0_dev14 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_349 : BitVec 32 := 1#32
  let v292 : BitVec 32 := Scalar.muli v7 c1_i32_349
  let v293 : BitVec 32 := Scalar.addi c0_i32_350 v292
  v293.toNat
def k0_dev15 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_408 : BitVec 32 := 1#32
  let v341 : BitVec 32 := Scalar.muli v7 c1_i32_408
  let v342 : BitVec 32 := Scalar.addi c0_i32_409 v341
  v342.toNat
def k0_dev16 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_449 : BitVec 32 := 1#32
  let v370 : BitVec 32 := Scalar.muli v5 c1_i32_449
  let v371 : BitVec 32 := Scalar.addi c0_i32_450 v370
  v371.toNat
def k0_dev17 (d0 : Dev nD) : Nat :=
  let c0_i32_491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_490 : BitVec 32 := 1#32
  let v399 : BitVec 32 := Scalar.muli v7 c1_i32_490
  let v400 : BitVec 32 := Scalar.addi c0_i32_491 v399
  v400.toNat
def k0_dev18 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_531 : BitVec 32 := 1#32
  let v428 : BitVec 32 := Scalar.muli v5 c1_i32_531
  let v429 : BitVec 32 := Scalar.addi c0_i32_532 v428
  v429.toNat
def k0_dev19 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_552 : BitVec 32 := 1#32
  let v446 : BitVec 32 := Scalar.muli v5 c1_i32_552
  let v447 : BitVec 32 := Scalar.addi c0_i32_553 v446
  v447.toNat
def k0_dev20 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_569 : BitVec 32 := 1#32
  let v456 : BitVec 32 := Scalar.muli v7 c1_i32_569
  let v457 : BitVec 32 := Scalar.addi c0_i32_570 v456
  v457.toNat
def k0_dev21 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_586 : BitVec 32 := 1#32
  let v466 : BitVec 32 := Scalar.muli v5 c1_i32_586
  let v467 : BitVec 32 := Scalar.addi c0_i32_587 v466
  v467.toNat
def k0_dev22 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_603 : BitVec 32 := 1#32
  let v476 : BitVec 32 := Scalar.muli v7 c1_i32_603
  let v477 : BitVec 32 := Scalar.addi c0_i32_604 v476
  v477.toNat
def k0_dev23 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_662 : BitVec 32 := 1#32
  let v525 : BitVec 32 := Scalar.muli v7 c1_i32_662
  let v526 : BitVec 32 := Scalar.addi c0_i32_663 v525
  v526.toNat
def k0_dev24 (d0 : Dev nD) : Nat :=
  let c0_i32_704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_703 : BitVec 32 := 1#32
  let v554 : BitVec 32 := Scalar.muli v5 c1_i32_703
  let v555 : BitVec 32 := Scalar.addi c0_i32_704 v554
  v555.toNat
def k0_dev25 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_744 : BitVec 32 := 1#32
  let v583 : BitVec 32 := Scalar.muli v7 c1_i32_744
  let v584 : BitVec 32 := Scalar.addi c0_i32_745 v583
  v584.toNat
def k0_dev26 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_785 : BitVec 32 := 1#32
  let v612 : BitVec 32 := Scalar.muli v5 c1_i32_785
  let v613 : BitVec 32 := Scalar.addi c0_i32_786 v612
  v613.toNat
def k0_dev27 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_806 : BitVec 32 := 1#32
  let v630 : BitVec 32 := Scalar.muli v5 c1_i32_806
  let v631 : BitVec 32 := Scalar.addi c0_i32_807 v630
  v631.toNat
def k0_dev28 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_823 : BitVec 32 := 1#32
  let v640 : BitVec 32 := Scalar.muli v7 c1_i32_823
  let v641 : BitVec 32 := Scalar.addi c0_i32_824 v640
  v641.toNat
def k0_dev29 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_840 : BitVec 32 := 1#32
  let v650 : BitVec 32 := Scalar.muli v5 c1_i32_840
  let v651 : BitVec 32 := Scalar.addi c0_i32_841 v650
  v651.toNat
def k0_dev30 (d0 : Dev nD) : Nat :=
  let c0_i32_858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_857 : BitVec 32 := 1#32
  let v660 : BitVec 32 := Scalar.muli v7 c1_i32_857
  let v661 : BitVec 32 := Scalar.addi c0_i32_858 v660
  v661.toNat
def k0_dev31 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_916 : BitVec 32 := 1#32
  let v709 : BitVec 32 := Scalar.muli v7 c1_i32_916
  let v710 : BitVec 32 := Scalar.addi c0_i32_917 v709
  v710.toNat
def k0_dev32 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_957 : BitVec 32 := 1#32
  let v738 : BitVec 32 := Scalar.muli v5 c1_i32_957
  let v739 : BitVec 32 := Scalar.addi c0_i32_958 v738
  v739.toNat
def k0_dev33 (d0 : Dev nD) : Nat :=
  let c0_i32_999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_998 : BitVec 32 := 1#32
  let v767 : BitVec 32 := Scalar.muli v7 c1_i32_998
  let v768 : BitVec 32 := Scalar.addi c0_i32_999 v767
  v768.toNat
def k0_dev34 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1039 : BitVec 32 := 1#32
  let v796 : BitVec 32 := Scalar.muli v5 c1_i32_1039
  let v797 : BitVec 32 := Scalar.addi c0_i32_1040 v796
  v797.toNat
def k0_dev35 (d0 : Dev nD) : Nat :=
  let c0_i32_1061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1060 : BitVec 32 := 1#32
  let v814 : BitVec 32 := Scalar.muli v5 c1_i32_1060
  let v815 : BitVec 32 := Scalar.addi c0_i32_1061 v814
  v815.toNat
def k0_dev36 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1077 : BitVec 32 := 1#32
  let v824 : BitVec 32 := Scalar.muli v7 c1_i32_1077
  let v825 : BitVec 32 := Scalar.addi c0_i32_1078 v824
  v825.toNat
def k0_dev37 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1094 : BitVec 32 := 1#32
  let v834 : BitVec 32 := Scalar.muli v5 c1_i32_1094
  let v835 : BitVec 32 := Scalar.addi c0_i32_1095 v834
  v835.toNat
def k0_dev38 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1111 : BitVec 32 := 1#32
  let v844 : BitVec 32 := Scalar.muli v7 c1_i32_1111
  let v845 : BitVec 32 := Scalar.addi c0_i32_1112 v844
  v845.toNat
def k0_dev39 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1169 : BitVec 32 := 1#32
  let v893 : BitVec 32 := Scalar.muli v7 c1_i32_1169
  let v894 : BitVec 32 := Scalar.addi c0_i32_1170 v893
  v894.toNat
def k0_dev40 (d0 : Dev nD) : Nat :=
  let c0_i32_1211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1210 : BitVec 32 := 1#32
  let v922 : BitVec 32 := Scalar.muli v5 c1_i32_1210
  let v923 : BitVec 32 := Scalar.addi c0_i32_1211 v922
  v923.toNat
def k0_dev41 (d0 : Dev nD) : Nat :=
  let c0_i32_1252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1251 : BitVec 32 := 1#32
  let v951 : BitVec 32 := Scalar.muli v7 c1_i32_1251
  let v952 : BitVec 32 := Scalar.addi c0_i32_1252 v951
  v952.toNat
def k0_dev42 (d0 : Dev nD) : Nat :=
  let c0_i32_1293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1292 : BitVec 32 := 1#32
  let v980 : BitVec 32 := Scalar.muli v5 c1_i32_1292
  let v981 : BitVec 32 := Scalar.addi c0_i32_1293 v980
  v981.toNat
def k0_dev43 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1313 : BitVec 32 := 1#32
  let v998 : BitVec 32 := Scalar.muli v5 c1_i32_1313
  let v999 : BitVec 32 := Scalar.addi c0_i32_1314 v998
  v999.toNat
def k0_dev44 (d0 : Dev nD) : Nat :=
  let c0_i32_1331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1330 : BitVec 32 := 1#32
  let v1008 : BitVec 32 := Scalar.muli v7 c1_i32_1330
  let v1009 : BitVec 32 := Scalar.addi c0_i32_1331 v1008
  v1009.toNat
def k0_dev45 (d0 : Dev nD) : Nat :=
  let c0_i32_1348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1347 : BitVec 32 := 1#32
  let v1018 : BitVec 32 := Scalar.muli v5 c1_i32_1347
  let v1019 : BitVec 32 := Scalar.addi c0_i32_1348 v1018
  v1019.toNat
def k0_dev46 (d0 : Dev nD) : Nat :=
  let c0_i32_1365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1364 : BitVec 32 := 1#32
  let v1028 : BitVec 32 := Scalar.muli v7 c1_i32_1364
  let v1029 : BitVec 32 := Scalar.addi c0_i32_1365 v1028
  v1029.toNat
def k0_dev47 (d0 : Dev nD) : Nat :=
  let c0_i32_1423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1422 : BitVec 32 := 1#32
  let v1077 : BitVec 32 := Scalar.muli v7 c1_i32_1422
  let v1078 : BitVec 32 := Scalar.addi c0_i32_1423 v1077
  v1078.toNat
def k0_dev48 (d0 : Dev nD) : Nat :=
  let c0_i32_1464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1463 : BitVec 32 := 1#32
  let v1106 : BitVec 32 := Scalar.muli v5 c1_i32_1463
  let v1107 : BitVec 32 := Scalar.addi c0_i32_1464 v1106
  v1107.toNat
def k0_dev49 (d0 : Dev nD) : Nat :=
  let c0_i32_1505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1504 : BitVec 32 := 1#32
  let v1135 : BitVec 32 := Scalar.muli v7 c1_i32_1504
  let v1136 : BitVec 32 := Scalar.addi c0_i32_1505 v1135
  v1136.toNat
def k0_dev50 (d0 : Dev nD) : Nat :=
  let c0_i32_1546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1545 : BitVec 32 := 1#32
  let v1164 : BitVec 32 := Scalar.muli v5 c1_i32_1545
  let v1165 : BitVec 32 := Scalar.addi c0_i32_1546 v1164
  v1165.toNat
def k0_dev51 (d0 : Dev nD) : Nat :=
  let c0_i32_1567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1566 : BitVec 32 := 1#32
  let v1182 : BitVec 32 := Scalar.muli v5 c1_i32_1566
  let v1183 : BitVec 32 := Scalar.addi c0_i32_1567 v1182
  v1183.toNat
def k0_dev52 (d0 : Dev nD) : Nat :=
  let c0_i32_1584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1583 : BitVec 32 := 1#32
  let v1192 : BitVec 32 := Scalar.muli v7 c1_i32_1583
  let v1193 : BitVec 32 := Scalar.addi c0_i32_1584 v1192
  v1193.toNat
def k0_dev53 (d0 : Dev nD) : Nat :=
  let c0_i32_1601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1600 : BitVec 32 := 1#32
  let v1202 : BitVec 32 := Scalar.muli v5 c1_i32_1600
  let v1203 : BitVec 32 := Scalar.addi c0_i32_1601 v1202
  v1203.toNat
def k0_dev54 (d0 : Dev nD) : Nat :=
  let c0_i32_1618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1617 : BitVec 32 := 1#32
  let v1212 : BitVec 32 := Scalar.muli v7 c1_i32_1617
  let v1213 : BitVec 32 := Scalar.addi c0_i32_1618 v1212
  v1213.toNat
def k0_dev55 (d0 : Dev nD) : Nat :=
  let c0_i32_1676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1675 : BitVec 32 := 1#32
  let v1261 : BitVec 32 := Scalar.muli v7 c1_i32_1675
  let v1262 : BitVec 32 := Scalar.addi c0_i32_1676 v1261
  v1262.toNat
def k0_dev56 (d0 : Dev nD) : Nat :=
  let c0_i32_1717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1716 : BitVec 32 := 1#32
  let v1290 : BitVec 32 := Scalar.muli v5 c1_i32_1716
  let v1291 : BitVec 32 := Scalar.addi c0_i32_1717 v1290
  v1291.toNat
def k0_dev57 (d0 : Dev nD) : Nat :=
  let c0_i32_1758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1757 : BitVec 32 := 1#32
  let v1319 : BitVec 32 := Scalar.muli v7 c1_i32_1757
  let v1320 : BitVec 32 := Scalar.addi c0_i32_1758 v1319
  v1320.toNat
def k0_dev58 (d0 : Dev nD) : Nat :=
  let c0_i32_1799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1798 : BitVec 32 := 1#32
  let v1348 : BitVec 32 := Scalar.muli v5 c1_i32_1798
  let v1349 : BitVec 32 := Scalar.addi c0_i32_1799 v1348
  v1349.toNat
def k0_dev59 (d0 : Dev nD) : Nat :=
  let c0_i32_1820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1819 : BitVec 32 := 1#32
  let v1366 : BitVec 32 := Scalar.muli v5 c1_i32_1819
  let v1367 : BitVec 32 := Scalar.addi c0_i32_1820 v1366
  v1367.toNat
def k0_dev60 (d0 : Dev nD) : Nat :=
  let c0_i32_1837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1836 : BitVec 32 := 1#32
  let v1376 : BitVec 32 := Scalar.muli v7 c1_i32_1836
  let v1377 : BitVec 32 := Scalar.addi c0_i32_1837 v1376
  v1377.toNat
def k0_dev61 (d0 : Dev nD) : Nat :=
  let c0_i32_1854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1853 : BitVec 32 := 1#32
  let v1386 : BitVec 32 := Scalar.muli v5 c1_i32_1853
  let v1387 : BitVec 32 := Scalar.addi c0_i32_1854 v1386
  v1387.toNat
def k0_dev62 (d0 : Dev nD) : Nat :=
  let c0_i32_1871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1870 : BitVec 32 := 1#32
  let v1396 : BitVec 32 := Scalar.muli v7 c1_i32_1870
  let v1397 : BitVec 32 := Scalar.addi c0_i32_1871 v1396
  v1397.toNat
def k0_dev63 (d0 : Dev nD) : Nat :=
  let c0_i32_1929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1928 : BitVec 32 := 1#32
  let v1445 : BitVec 32 := Scalar.muli v7 c1_i32_1928
  let v1446 : BitVec 32 := Scalar.addi c0_i32_1929 v1445
  v1446.toNat
def k0_dev64 (d0 : Dev nD) : Nat :=
  let c0_i32_1970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1969 : BitVec 32 := 1#32
  let v1474 : BitVec 32 := Scalar.muli v5 c1_i32_1969
  let v1475 : BitVec 32 := Scalar.addi c0_i32_1970 v1474
  v1475.toNat
def k0_dev65 (d0 : Dev nD) : Nat :=
  let c0_i32_2011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2010 : BitVec 32 := 1#32
  let v1503 : BitVec 32 := Scalar.muli v7 c1_i32_2010
  let v1504 : BitVec 32 := Scalar.addi c0_i32_2011 v1503
  v1504.toNat
def k0_dev66 (d0 : Dev nD) : Nat :=
  let c0_i32_2052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2051 : BitVec 32 := 1#32
  let v1532 : BitVec 32 := Scalar.muli v5 c1_i32_2051
  let v1533 : BitVec 32 := Scalar.addi c0_i32_2052 v1532
  v1533.toNat
def k0_dev67 (d0 : Dev nD) : Nat :=
  let c0_i32_2073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2072 : BitVec 32 := 1#32
  let v1550 : BitVec 32 := Scalar.muli v5 c1_i32_2072
  let v1551 : BitVec 32 := Scalar.addi c0_i32_2073 v1550
  v1551.toNat
def k0_dev68 (d0 : Dev nD) : Nat :=
  let c0_i32_2090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2089 : BitVec 32 := 1#32
  let v1560 : BitVec 32 := Scalar.muli v7 c1_i32_2089
  let v1561 : BitVec 32 := Scalar.addi c0_i32_2090 v1560
  v1561.toNat
def k0_dev69 (d0 : Dev nD) : Nat :=
  let c0_i32_2107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2106 : BitVec 32 := 1#32
  let v1570 : BitVec 32 := Scalar.muli v5 c1_i32_2106
  let v1571 : BitVec 32 := Scalar.addi c0_i32_2107 v1570
  v1571.toNat
def k0_dev70 (d0 : Dev nD) : Nat :=
  let c0_i32_2124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2123 : BitVec 32 := 1#32
  let v1580 : BitVec 32 := Scalar.muli v7 c1_i32_2123
  let v1581 : BitVec 32 := Scalar.addi c0_i32_2124 v1580
  v1581.toNat
def k0_dev71 (d0 : Dev nD) : Nat :=
  let c0_i32_2182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2181 : BitVec 32 := 1#32
  let v1629 : BitVec 32 := Scalar.muli v7 c1_i32_2181
  let v1630 : BitVec 32 := Scalar.addi c0_i32_2182 v1629
  v1630.toNat
def k0_dev72 (d0 : Dev nD) : Nat :=
  let c0_i32_2223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2222 : BitVec 32 := 1#32
  let v1658 : BitVec 32 := Scalar.muli v5 c1_i32_2222
  let v1659 : BitVec 32 := Scalar.addi c0_i32_2223 v1658
  v1659.toNat
def k0_dev73 (d0 : Dev nD) : Nat :=
  let c0_i32_2264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2263 : BitVec 32 := 1#32
  let v1687 : BitVec 32 := Scalar.muli v7 c1_i32_2263
  let v1688 : BitVec 32 := Scalar.addi c0_i32_2264 v1687
  v1688.toNat
def k0_dev74 (d0 : Dev nD) : Nat :=
  let c0_i32_2305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2304 : BitVec 32 := 1#32
  let v1716 : BitVec 32 := Scalar.muli v5 c1_i32_2304
  let v1717 : BitVec 32 := Scalar.addi c0_i32_2305 v1716
  v1717.toNat
def k0_dev75 (d0 : Dev nD) : Nat :=
  let c0_i32_2326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2325 : BitVec 32 := 1#32
  let v1734 : BitVec 32 := Scalar.muli v5 c1_i32_2325
  let v1735 : BitVec 32 := Scalar.addi c0_i32_2326 v1734
  v1735.toNat
def k0_dev76 (d0 : Dev nD) : Nat :=
  let c0_i32_2343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2342 : BitVec 32 := 1#32
  let v1744 : BitVec 32 := Scalar.muli v7 c1_i32_2342
  let v1745 : BitVec 32 := Scalar.addi c0_i32_2343 v1744
  v1745.toNat
def k0_dev77 (d0 : Dev nD) : Nat :=
  let c0_i32_2360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2359 : BitVec 32 := 1#32
  let v1754 : BitVec 32 := Scalar.muli v5 c1_i32_2359
  let v1755 : BitVec 32 := Scalar.addi c0_i32_2360 v1754
  v1755.toNat
def k0_dev78 (d0 : Dev nD) : Nat :=
  let c0_i32_2377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2376 : BitVec 32 := 1#32
  let v1764 : BitVec 32 := Scalar.muli v7 c1_i32_2376
  let v1765 : BitVec 32 := Scalar.addi c0_i32_2377 v1764
  v1765.toNat
def k0_dev79 (d0 : Dev nD) : Nat :=
  let c0_i32_2435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2434 : BitVec 32 := 1#32
  let v1813 : BitVec 32 := Scalar.muli v7 c1_i32_2434
  let v1814 : BitVec 32 := Scalar.addi c0_i32_2435 v1813
  v1814.toNat
def k0_dev80 (d0 : Dev nD) : Nat :=
  let c0_i32_2476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2475 : BitVec 32 := 1#32
  let v1842 : BitVec 32 := Scalar.muli v5 c1_i32_2475
  let v1843 : BitVec 32 := Scalar.addi c0_i32_2476 v1842
  v1843.toNat
def k0_dev81 (d0 : Dev nD) : Nat :=
  let c0_i32_2517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2516 : BitVec 32 := 1#32
  let v1871 : BitVec 32 := Scalar.muli v7 c1_i32_2516
  let v1872 : BitVec 32 := Scalar.addi c0_i32_2517 v1871
  v1872.toNat
def k0_dev82 (d0 : Dev nD) : Nat :=
  let c0_i32_2558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2557 : BitVec 32 := 1#32
  let v1900 : BitVec 32 := Scalar.muli v5 c1_i32_2557
  let v1901 : BitVec 32 := Scalar.addi c0_i32_2558 v1900
  v1901.toNat
def k0_dev83 (d0 : Dev nD) : Nat :=
  let c0_i32_2579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2578 : BitVec 32 := 1#32
  let v1918 : BitVec 32 := Scalar.muli v5 c1_i32_2578
  let v1919 : BitVec 32 := Scalar.addi c0_i32_2579 v1918
  v1919.toNat
def k0_dev84 (d0 : Dev nD) : Nat :=
  let c0_i32_2596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2595 : BitVec 32 := 1#32
  let v1928 : BitVec 32 := Scalar.muli v7 c1_i32_2595
  let v1929 : BitVec 32 := Scalar.addi c0_i32_2596 v1928
  v1929.toNat
def k0_dev85 (d0 : Dev nD) : Nat :=
  let c0_i32_2613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2612 : BitVec 32 := 1#32
  let v1938 : BitVec 32 := Scalar.muli v5 c1_i32_2612
  let v1939 : BitVec 32 := Scalar.addi c0_i32_2613 v1938
  v1939.toNat
def k0_dev86 (d0 : Dev nD) : Nat :=
  let c0_i32_2630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2629 : BitVec 32 := 1#32
  let v1948 : BitVec 32 := Scalar.muli v7 c1_i32_2629
  let v1949 : BitVec 32 := Scalar.addi c0_i32_2630 v1948
  v1949.toNat
def k0_dev87 (d0 : Dev nD) : Nat :=
  let c0_i32_2688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2687 : BitVec 32 := 1#32
  let v1997 : BitVec 32 := Scalar.muli v7 c1_i32_2687
  let v1998 : BitVec 32 := Scalar.addi c0_i32_2688 v1997
  v1998.toNat
def k0_dev88 (d0 : Dev nD) : Nat :=
  let c0_i32_2729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2728 : BitVec 32 := 1#32
  let v2026 : BitVec 32 := Scalar.muli v5 c1_i32_2728
  let v2027 : BitVec 32 := Scalar.addi c0_i32_2729 v2026
  v2027.toNat
def k0_dev89 (d0 : Dev nD) : Nat :=
  let c0_i32_2770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2769 : BitVec 32 := 1#32
  let v2055 : BitVec 32 := Scalar.muli v7 c1_i32_2769
  let v2056 : BitVec 32 := Scalar.addi c0_i32_2770 v2055
  v2056.toNat
def k0_dev90 (d0 : Dev nD) : Nat :=
  let c0_i32_2811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2810 : BitVec 32 := 1#32
  let v2084 : BitVec 32 := Scalar.muli v5 c1_i32_2810
  let v2085 : BitVec 32 := Scalar.addi c0_i32_2811 v2084
  v2085.toNat
def k0_dev91 (d0 : Dev nD) : Nat :=
  let c0_i32_2832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2831 : BitVec 32 := 1#32
  let v2102 : BitVec 32 := Scalar.muli v5 c1_i32_2831
  let v2103 : BitVec 32 := Scalar.addi c0_i32_2832 v2102
  v2103.toNat
def k0_dev92 (d0 : Dev nD) : Nat :=
  let c0_i32_2849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2848 : BitVec 32 := 1#32
  let v2112 : BitVec 32 := Scalar.muli v7 c1_i32_2848
  let v2113 : BitVec 32 := Scalar.addi c0_i32_2849 v2112
  v2113.toNat
def k0_dev93 (d0 : Dev nD) : Nat :=
  let c0_i32_2866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2865 : BitVec 32 := 1#32
  let v2122 : BitVec 32 := Scalar.muli v5 c1_i32_2865
  let v2123 : BitVec 32 := Scalar.addi c0_i32_2866 v2122
  v2123.toNat
def k0_dev94 (d0 : Dev nD) : Nat :=
  let c0_i32_2883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2882 : BitVec 32 := 1#32
  let v2132 : BitVec 32 := Scalar.muli v7 c1_i32_2882
  let v2133 : BitVec 32 := Scalar.addi c0_i32_2883 v2132
  v2133.toNat
def k0_dev95 (d0 : Dev nD) : Nat :=
  let c0_i32_2941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2940 : BitVec 32 := 1#32
  let v2181 : BitVec 32 := Scalar.muli v7 c1_i32_2940
  let v2182 : BitVec 32 := Scalar.addi c0_i32_2941 v2181
  v2182.toNat
def k0_dev96 (d0 : Dev nD) : Nat :=
  let c0_i32_2982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2981 : BitVec 32 := 1#32
  let v2210 : BitVec 32 := Scalar.muli v5 c1_i32_2981
  let v2211 : BitVec 32 := Scalar.addi c0_i32_2982 v2210
  v2211.toNat
def k0_dev97 (d0 : Dev nD) : Nat :=
  let c0_i32_3023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3022 : BitVec 32 := 1#32
  let v2239 : BitVec 32 := Scalar.muli v7 c1_i32_3022
  let v2240 : BitVec 32 := Scalar.addi c0_i32_3023 v2239
  v2240.toNat
def k0_dev98 (d0 : Dev nD) : Nat :=
  let c0_i32_3064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3063 : BitVec 32 := 1#32
  let v2268 : BitVec 32 := Scalar.muli v5 c1_i32_3063
  let v2269 : BitVec 32 := Scalar.addi c0_i32_3064 v2268
  v2269.toNat
def k0_dev99 (d0 : Dev nD) : Nat :=
  let c0_i32_3085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3084 : BitVec 32 := 1#32
  let v2286 : BitVec 32 := Scalar.muli v5 c1_i32_3084
  let v2287 : BitVec 32 := Scalar.addi c0_i32_3085 v2286
  v2287.toNat
def k0_dev100 (d0 : Dev nD) : Nat :=
  let c0_i32_3102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3101 : BitVec 32 := 1#32
  let v2296 : BitVec 32 := Scalar.muli v7 c1_i32_3101
  let v2297 : BitVec 32 := Scalar.addi c0_i32_3102 v2296
  v2297.toNat
def k0_dev101 (d0 : Dev nD) : Nat :=
  let c0_i32_3119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3118 : BitVec 32 := 1#32
  let v2306 : BitVec 32 := Scalar.muli v5 c1_i32_3118
  let v2307 : BitVec 32 := Scalar.addi c0_i32_3119 v2306
  v2307.toNat
def k0_dev102 (d0 : Dev nD) : Nat :=
  let c0_i32_3136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3135 : BitVec 32 := 1#32
  let v2316 : BitVec 32 := Scalar.muli v7 c1_i32_3135
  let v2317 : BitVec 32 := Scalar.addi c0_i32_3136 v2316
  v2317.toNat
def k0_dev103 (d0 : Dev nD) : Nat :=
  let c0_i32_3194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3193 : BitVec 32 := 1#32
  let v2365 : BitVec 32 := Scalar.muli v7 c1_i32_3193
  let v2366 : BitVec 32 := Scalar.addi c0_i32_3194 v2365
  v2366.toNat
def k0_dev104 (d0 : Dev nD) : Nat :=
  let c0_i32_3235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3234 : BitVec 32 := 1#32
  let v2394 : BitVec 32 := Scalar.muli v5 c1_i32_3234
  let v2395 : BitVec 32 := Scalar.addi c0_i32_3235 v2394
  v2395.toNat
def k0_dev105 (d0 : Dev nD) : Nat :=
  let c0_i32_3276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3275 : BitVec 32 := 1#32
  let v2423 : BitVec 32 := Scalar.muli v7 c1_i32_3275
  let v2424 : BitVec 32 := Scalar.addi c0_i32_3276 v2423
  v2424.toNat
def k0_dev106 (d0 : Dev nD) : Nat :=
  let c0_i32_3317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3316 : BitVec 32 := 1#32
  let v2452 : BitVec 32 := Scalar.muli v5 c1_i32_3316
  let v2453 : BitVec 32 := Scalar.addi c0_i32_3317 v2452
  v2453.toNat
def k0_dev107 (d0 : Dev nD) : Nat :=
  let c0_i32_3338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3337 : BitVec 32 := 1#32
  let v2470 : BitVec 32 := Scalar.muli v5 c1_i32_3337
  let v2471 : BitVec 32 := Scalar.addi c0_i32_3338 v2470
  v2471.toNat
def k0_dev108 (d0 : Dev nD) : Nat :=
  let c0_i32_3355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3354 : BitVec 32 := 1#32
  let v2480 : BitVec 32 := Scalar.muli v7 c1_i32_3354
  let v2481 : BitVec 32 := Scalar.addi c0_i32_3355 v2480
  v2481.toNat
def k0_dev109 (d0 : Dev nD) : Nat :=
  let c0_i32_3372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3371 : BitVec 32 := 1#32
  let v2490 : BitVec 32 := Scalar.muli v5 c1_i32_3371
  let v2491 : BitVec 32 := Scalar.addi c0_i32_3372 v2490
  v2491.toNat
def k0_dev110 (d0 : Dev nD) : Nat :=
  let c0_i32_3389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3388 : BitVec 32 := 1#32
  let v2500 : BitVec 32 := Scalar.muli v7 c1_i32_3388
  let v2501 : BitVec 32 := Scalar.addi c0_i32_3389 v2500
  v2501.toNat
def k0_dev111 (d0 : Dev nD) : Nat :=
  let c0_i32_3447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3446 : BitVec 32 := 1#32
  let v2549 : BitVec 32 := Scalar.muli v7 c1_i32_3446
  let v2550 : BitVec 32 := Scalar.addi c0_i32_3447 v2549
  v2550.toNat
def k0_dev112 (d0 : Dev nD) : Nat :=
  let c0_i32_3488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3487 : BitVec 32 := 1#32
  let v2578 : BitVec 32 := Scalar.muli v5 c1_i32_3487
  let v2579 : BitVec 32 := Scalar.addi c0_i32_3488 v2578
  v2579.toNat
def k0_dev113 (d0 : Dev nD) : Nat :=
  let c0_i32_3529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3528 : BitVec 32 := 1#32
  let v2607 : BitVec 32 := Scalar.muli v7 c1_i32_3528
  let v2608 : BitVec 32 := Scalar.addi c0_i32_3529 v2607
  v2608.toNat
def k0_dev114 (d0 : Dev nD) : Nat :=
  let c0_i32_3570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3569 : BitVec 32 := 1#32
  let v2636 : BitVec 32 := Scalar.muli v5 c1_i32_3569
  let v2637 : BitVec 32 := Scalar.addi c0_i32_3570 v2636
  v2637.toNat
abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Prog.lean ====
/- The kernel's body as a structured program: one definition per kind of step, over the stream `k` and the copy `h`,
   and the equation between it and the printed body. -/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Hand

open Cert.KernelIdeal Cert.KernelIdeal.Gen
open Idealize.ShloMosaic Idealize.SL.Sem

variable {F : FTy → Type} [FloatOps F]

/-! ### Buffers, views and semaphores -/

/-- The whole staging buffer of `x`. -/
abbrev xM : Memref sig .tc .vmem S4096x256 .i8 := Memref.whole cc0_stg0_0
/-- The whole staging buffer of `w`. -/
abbrev wM : Memref sig .tc .vmem S256x2048 .i8 := Memref.whole cc0_stg1_0
/-- The first scale's word. -/
abbrev sxM : Memref sig .tc .smem S1 .f32 := Memref.whole cc0_stg2_0
/-- The second scale's word. -/
abbrev swM : Memref sig .tc .smem S1 .f32 := Memref.whole cc0_stg3_0
/-- The whole staging buffer of the result. -/
abbrev oM : Memref sig .tc .vmem S256x2048 .f32 := Memref.whole cc0_stg4_0
/-- The accumulators' buffer, four streams of three slots. -/
abbrev bM : Memref sig .tc .vmem S4x3x256x512 .bf16 := Memref.whole cc0_scratch0
/-- The cast weights. -/
abbrev cM : Memref sig .tc .vmem S256x2048 .bf16 := Memref.whole cc0_scratch1
/-- The hop's own products. -/
abbrev tM : Memref sig .tc .vmem S256x2048 .f32 := Memref.whole cc0_scratch2

/-- The slot a copy number falls on. -/
def sl (n : ℕ) : Fin 3 := ⟨n % 3, Nat.mod_lt _ (by decide)⟩

/-- A slot's box lies in the accumulators' buffer. -/
theorem slot_inb (k : Fin 4) (s : Fin 3) : ∀ a, (![k.val, s.val, 0, 0] : Fin 4 → Nat) a + S1x1x256x512.size a ≤ S4x3x256x512.size a := by
  revert k s; decide
/-- Slot `s` of stream `k` as a box of the accumulators' buffer. -/
abbrev slotR (k : Fin 4) (s : Fin 3) : Rect S4x3x256x512 := Rect.unit (s := S4x3x256x512) ![k.val, s.val, 0, 0] S1x1x256x512.size (slot_inb k s)
/-- A slot is made of whole words. -/
theorem slot_words (k : Fin 4) (s : Fin 3) : (slotR k s).WholeWords (EltTy.packing .bf16) := by
  revert k s; decide
/-- A slot is made of packed rows. -/
theorem slot_packed (k : Fin 4) (s : Fin 3) : (slotR k s).PackedRows (EltTy.packing .bf16) := by
  revert k s; decide
/-- Slot `s` of stream `k` as the memref the copies name. -/
def slotM (k : Fin 4) (s : Fin 3) : Memref sig .tc .vmem S256x512 .bf16 :=
  (bM.slice (Rect.unit (s := S4x3x256x512) ![k.val, s.val, 0, 0] S1x1x256x512.size (slot_inb k s)) (fun _ => rfl)).squeeze S256x512 squeezes_S1x1x256x512_S256x512
/-- A slot's memref covers whole words. -/
theorem slot_word (k : Fin 4) (s : Fin 3) : (slotM k s).view.WordExact :=
  ((Memref.isWhole_whole cc0_scratch0).wordExact_slice rfl _ (slot_words k s)).reshape _ _

/-- A semaphore's box lies in the semaphores' array. -/
theorem sem_inb (k : Fin 4) (s : Fin 3) : ∀ a, (![k.val, s.val] : Fin 2 → Nat) a + S1x1.size a ≤ S4x3.size a := by
  revert k s; decide
/-- The send semaphore of a slot. -/
def sendQ (k : Fin 4) (s : Fin 3) : DmaSem sig :=
  ((cc0_scratch3.slice (Rect.unit (s := S4x3) ![k.val, s.val] S1x1.size (sem_inb k s))).squeeze S_ squeezes_S1x1_S_).sem
/-- The receive semaphore of a slot. -/
def recvQ (k : Fin 4) (s : Fin 3) : DmaSem sig :=
  ((cc0_scratch4.slice (Rect.unit (s := S4x3) ![k.val, s.val] S1x1.size (sem_inb k s))).squeeze S_ squeezes_S1x1_S_).sem
/-- A credit semaphore's box lies in its array. -/
theorem credit_inb (k : Fin 4) : ∀ a, (![k.val] : Fin 1 → Nat) a + S1.size a ≤ S4.size a := by
  revert k; decide
/-- The credit semaphore of a stream. -/
def credQ (k : Fin 4) : Sem sig :=
  ((cc0_scratch5.slice (Rect.unit (s := S4) ![k.val] S1.size (credit_inb k))).squeeze S_ squeezes_S1_S_).sem
/-- The barrier semaphore. -/
def barQ : Sem sig := (SemArray.scalar (sig.barrier 0 rfl) : Sems sig S_).sem

/-! ### Devices -/

/-- The left neighbour. -/
def lft (d : Dev nD) : Dev nD := ⟨k0_dev1 d, k0_dev1_lt d⟩
/-- The right neighbour. -/
def rgt (d : Dev nD) : Dev nD := ⟨k0_dev2 d, k0_dev2_lt d⟩
/-- Whether a stream travels to the right. -/
def toRight (k : Fin 4) : Bool := k.val < 2
/-- The device a stream's copies go to. -/
def outD (k : Fin 4) (d : Dev nD) : Dev nD := bif toRight k then rgt d else lft d
/-- The device a stream's copies come from. -/
def inD (k : Fin 4) (d : Dev nD) : Dev nD := bif toRight k then lft d else rgt d

/-! ### Columns -/

/-- A stream's columns lie in the row of all columns. -/
theorem col_inb (k : Fin 4) : ∀ a, (![0, 512 * k.val] : Fin 2 → Nat) a + S256x512.size a ≤ S256x2048.size a := by
  revert k; decide
/-- The stream's columns. -/
abbrev colR (k : Fin 4) : Rect S256x2048 := Rect.unit (s := S256x2048) ![0, 512 * k.val] S256x512.size (col_inb k)

/-! ### The steps -/

/-- The effects of the body. -/
abbrev P (F : FTy → Type) : Type → Type 1 := Prog (TpuEff nD τ sig (Elt F) Λ₀ .tc)

/-- Signal both neighbours and wait for both. -/
def pBar (d : Dev nD) : P F PUnit := do
  semSignalWord (lft d) barQ 1#32
  semSignalWord (rgt d) barQ 1#32
  semWaitWord barQ 2#32

/-- Cast the weights into their buffer. -/
def pCast : P F PUnit := do
  let v ← Prog.lift (.load wM (Rect.unit (s := S256x2048) ![0, 0] S256x2048.size inb_S256x2048_S256x2048_0_0).toLoadRect (View.loadsAt_vmem h_S256x2048))
  let _ ← Prog.lift (.load cM (Rect.unit (s := S256x2048) ![0, 0] S256x2048.size inb_S256x2048_S256x2048_0_0).toLoadRect (View.loadsAt_vmem h_S256x2048))
  Prog.lift (.store cM (Rect.unit (s := S256x2048) ![0, 0] S256x2048.size inb_S256x2048_S256x2048_0_0) (k0_pay1 v) Finset.univ (View.stores_vmem h_S256x2048 ((Memref.isWhole_whole cc0_scratch1).storeExact_slice rfl _ packedbf16_S256x2048_S256x2048_0_0) (fun _ => rfl)) (.inl rfl))

/-- Read the two scales and multiply them. -/
def pScale : P F (F .f32) := do
  let a ← smemLoad sxM (Rect.unit (s := S1) ![0] S1.size inb_S1_S1_0) numel1_S1 rfl
  let b ← smemLoad swM (Rect.unit (s := S1) ![0] S1.size inb_S1_S1_0) numel1_S1 rfl
  pure (k0_pay2 a b)

/-- The rows of `x` a stream starts from, loaded. -/
def pRows (k : Fin 4) (d : Dev nD) : P F (Vec F S256x256 .i8) :=
  bif toRight k then Prog.lift (.load xM (Rect.unit (s := S4096x256) (k0_off1 d) S256x256.size (k0_off1_inb d)).toLoadRect (View.loadsAt_vmem h_S256x256))
  else Prog.lift (.load xM (Rect.unit (s := S4096x256) (k0_off2 d) S256x256.size (k0_off2_inb d)).toLoadRect (View.loadsAt_vmem h_S256x256))

/-- Write a slot of the accumulators' buffer. -/
def pPut (k : Fin 4) (s : Fin 3) (v : FVec F S1x1x256x512 .bf16) : P F PUnit := do
  let _ ← Prog.lift (.load bM (Rect.unit (s := S4x3x256x512) ![k.val, s.val, 0, 0] S1x1x256x512.size (slot_inb k s)).toLoadRect (View.loadsAt_vmem h_S1x1x256x512))
  Prog.lift (.store bM (Rect.unit (s := S4x3x256x512) ![k.val, s.val, 0, 0] S1x1x256x512.size (slot_inb k s)) v Finset.univ (View.stores_vmem h_S1x1x256x512 ((Memref.isWhole_whole cc0_scratch0).storeExact_slice rfl _ (slot_packed k s)) (fun _ => rfl)) (.inl rfl))

/-- Read a slot of the accumulators' buffer. -/
def pGet (k : Fin 4) (s : Fin 3) : P F (Vec F S1x1x256x512 .bf16) :=
  Prog.lift (.load bM (Rect.unit (s := S4x3x256x512) ![k.val, s.val, 0, 0] S1x1x256x512.size (slot_inb k s)).toLoadRect (View.loadsAt_vmem h_S1x1x256x512))

/-- Start copy `j` of stream `k`. -/
def pSend (d : Dev nD) (k : Fin 4) (j : ℕ) : P F PUnit :=
  Prog.lift (.enqueueDma (slotM k (sl j)) (.remote (Dev.tc (outD k d)) (slotM k (sl (j + 1))) (.dma (sendQ k (sl j)))) (.dma (recvQ k (sl (j + 1)))) (slot_word k _) (slot_word k _) ⟨⟨rfl, Or.inl rfl⟩, trivial⟩)

/-- Wait for copy `j` of stream `k` to arrive. -/
def pWaitRecv (k : Fin 4) (j : ℕ) : P F PUnit :=
  Prog.lift (.waitDma2 (recvQ k (sl (j + 1))) (slotM k (sl j)) (slotM k (sl (j + 1))) (slot_word k _) (slot_word k _))

/-- Wait for copy `j` of stream `k` to have left. -/
def pWaitSend (k : Fin 4) (j : ℕ) : P F PUnit :=
  Prog.lift (.waitDma2 (sendQ k (sl j)) (slotM k (sl (j + 1))) (slotM k (sl j)) (slot_word k _) (slot_word k _))

/-- Start stream `k`. -/
def pInit (d : Dev nD) (k : Fin 4) : P F PUnit := do
  let v ← pRows k d
  let w ← Prog.lift (.load cM (colR k).toLoadRect (View.loadsAt_vmem h_S256x512))
  pPut k (sl 0) (k0_pay3 v w)
  pSend d k 0

/-- The hop's number as the generated row offsets take it. -/
def hop15 (h : ℕ) : Fin 15 := ⟨h % 15, Nat.mod_lt _ (by decide)⟩

/-- The hop's own products, both halves. -/
def pDots (d : Dev nD) (h : ℕ) : P F PUnit := do
  let x1 ← Prog.lift (.load xM (Rect.unit (s := S4096x256) (k0_off3 d (BitVec.ofNat 32 (hop15 h).val)) S256x256.size (k0_off3_inb d (hop15 h))).toLoadRect (View.loadsAt_vmem h_S256x256))
  let w1 ← Prog.lift (.load cM (Rect.unit (s := S256x2048) ![0, 0] S256x1024.size inb_S256x2048_S256x1024_0_0).toLoadRect (View.loadsAt_vmem h_S256x1024))
  let _ ← Prog.lift (.load tM (Rect.unit (s := S256x2048) ![0, 0] S256x1024.size inb_S256x2048_S256x1024_0_0).toLoadRect (View.loadsAt_vmem h_S256x1024))
  Prog.lift (.store tM (Rect.unit (s := S256x2048) ![0, 0] S256x1024.size inb_S256x2048_S256x1024_0_0) (k0_pay8 x1 w1) Finset.univ (View.stores_vmem_bits_univ h_S256x1024 rfl) (.inl rfl))
  let x2 ← Prog.lift (.load xM (Rect.unit (s := S4096x256) (k0_off4 d (BitVec.ofNat 32 (hop15 h).val)) S256x256.size (k0_off4_inb d (hop15 h))).toLoadRect (View.loadsAt_vmem h_S256x256))
  let w2 ← Prog.lift (.load cM (Rect.unit (s := S256x2048) ![0, 1024] S256x1024.size inb_S256x2048_S256x1024_0_1024).toLoadRect (View.loadsAt_vmem h_S256x1024))
  let _ ← Prog.lift (.load tM (Rect.unit (s := S256x2048) ![0, 1024] S256x1024.size inb_S256x2048_S256x1024_0_1024).toLoadRect (View.loadsAt_vmem h_S256x1024))
  Prog.lift (.store tM (Rect.unit (s := S256x2048) ![0, 1024] S256x1024.size inb_S256x2048_S256x1024_0_1024) (k0_pay8 x2 w2) Finset.univ (View.stores_vmem_bits_univ h_S256x1024 rfl) (.inl rfl))

/-- Read the stream's columns of the hop's own products. -/
def pTmp (k : Fin 4) : P F (Vec F S256x512 .f32) :=
  Prog.lift (.load tM (colR k).toLoadRect (View.loadsAt_vmem h_S256x512))

/-- Wait for the credit copy `h + 1` needs. -/
def pCredit (k : Fin 4) (h : ℕ) : P F PUnit :=
  if h = 0 then pure ⟨⟩ else semWaitWord (credQ k) 1#32

/-- One hop of one stream: receive copy `h`, add, send copy `h + 1`. -/
def pHop (d : Dev nD) (h : ℕ) (k : Fin 4) : P F PUnit := do
  pWaitRecv k h
  let a ← pGet k (sl (h + 1))
  let t ← pTmp k
  pPut k (sl (h + 1)) (k0_pay11 a t)
  pCredit k h
  pSend d k (h + 1)

/-- The end of one hop of one stream: copy `h` has left, and its slot is given back. -/
def pDone (d : Dev nD) (h : ℕ) (k : Fin 4) : P F PUnit := do
  pWaitSend k h
  if h < 13 then semSignalWord (inD k d) (credQ k) 1#32 else pure ⟨⟩

/-- One step over the four streams, in the kernel's order. -/
def four (f : Fin 4 → P F PUnit) : P F PUnit := do
  f 0
  f 2
  f 1
  f 3

/-- A hop. -/
def pHops (d : Dev nD) (h : ℕ) : P F PUnit := do
  pDots d h
  four (pHop d h)
  four (pDone d h)

/-- `n` hops from hop `h` on. -/
def hopsFrom (d : Dev nD) : ℕ → ℕ → P F PUnit
  | 0, _ => pure ⟨⟩
  | n + 1, h => pHops d h >>= fun _ => hopsFrom d n (h + 1)

/-- The last hop of one stream: receive the last copy and write the result's columns. -/
def pLast (al : F .f32) (k : Fin 4) : P F PUnit := do
  pWaitRecv k 14
  let a ← pGet k (sl 15)
  let t ← pTmp k
  let _ ← Prog.lift (.load oM (colR k).toLoadRect (View.loadsAt_vmem h_S256x512))
  Prog.lift (.store oM (colR k) (k0_pay122 al a t) Finset.univ (View.stores_vmem_bits_univ h_S256x512 rfl) (.inl rfl))

/-- The whole body. -/
def body : P F PUnit := do
  let d ← Prog.lift .deviceId
  pBar d
  pCast
  let al ← pScale
  four (pInit d)
  hopsFrom d 14 0
  pDots d 14
  four (pLast al)
  four (fun k => pWaitSend k 14)

end Cert.KernelIdeal.Hand
-- ==== Proof.Sched.lean ====
/- The protocol of the kernel: which cell is paid by whom, how much, and what a payment hands over; the contents the
   slots hold; what each device owes at the start and the order in which the waits go. -/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Release

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

/-! ### The ghost state -/

/-- A slot given back: the device that owns it, the stream, the copy that left it. -/
abbrev Key : Type := Dev nD × Fin 4 × ℕ
/-- The rounds' state and the slots' state. -/
abbrev UX : Type := URounds (GSem nD τ sig) ℕ × USlots Key
/-- The whole ghost state. -/
abbrev UU : Type := UR sig nD τ × UX

local notation "𝕄" => MT nD τ sig ℕ (Elt F) ℕ UU ℕ

/-- The pipeline's part of the ghost state. -/
abbrev EP : Emb (UR sig nD τ) (MT nD τ sig ℕ (Elt F) ℕ UU ℕ) := embL
/-- The rounds' part. -/
abbrev ER : Emb (URounds (GSem nD τ sig) ℕ) (MT nD τ sig ℕ (Elt F) ℕ UU ℕ) := (Emb.inl : Emb _ UX).trans embR
/-- The slots' part. -/
abbrev ES : Emb (USlots Key) (MT nD τ sig ℕ (Elt F) ℕ UU ℕ) := (Emb.inr : Emb _ UX).trans embR

/-! ### The ring -/

/-- The left neighbour of the right neighbour. -/
theorem lft_rgt (c : Dev nD) : lft (rgt c) = c := by revert c; decide
/-- The right neighbour of the left neighbour. -/
theorem rgt_lft (c : Dev nD) : rgt (lft c) = c := by revert c; decide
/-- Where a stream comes from, and on. -/
theorem outD_inD (k : Fin 4) (c : Dev nD) : outD k (inD k c) = c := by
  unfold outD inD; cases toRight k; exact lft_rgt c; exact rgt_lft c
/-- Where a stream goes to, and back. -/
theorem inD_outD (k : Fin 4) (c : Dev nD) : inD k (outD k c) = c := by
  unfold outD inD; cases toRight k; exact rgt_lft c; exact lft_rgt c

/-! ### The cells -/

/-- What a semaphore is for. -/
inductive Kd where
  | bar | send (k : Fin 4) (s : Fin 3) | recv (k : Fin 4) (s : Fin 3) | cred (k : Fin 4) | other
  deriving DecidableEq

/-- What a semaphore is for, by its number. -/
def kindOf : SemLoc sig → Kd
  | .dma q =>
    if q.val < 5 then .other
    else if q.val < 17 then .send ⟨(q.val - 5) / 3 % 4, Nat.mod_lt _ (by decide)⟩ ⟨(q.val - 5) % 3, Nat.mod_lt _ (by decide)⟩
    else .recv ⟨(q.val - 17) / 3 % 4, Nat.mod_lt _ (by decide)⟩ ⟨(q.val - 17) % 3, Nat.mod_lt _ (by decide)⟩
  | .reg q => if q.val < 4 then .cred ⟨q.val % 4, Nat.mod_lt _ (by decide)⟩ else .bar

/-- The send semaphore's kind. -/
theorem kind_send (k : Fin 4) (s : Fin 3) : kindOf (.dma (sendQ k s)) = .send k s := by revert k s; decide
/-- The receive semaphore's kind. -/
theorem kind_recv (k : Fin 4) (s : Fin 3) : kindOf (.dma (recvQ k s)) = .recv k s := by revert k s; decide
/-- The credit semaphore's kind. -/
theorem kind_cred (k : Fin 4) : kindOf (.reg (credQ k)) = .cred k := by revert k; decide
/-- The barrier semaphore's kind. -/
theorem kind_bar : kindOf (.reg barQ) = .bar := by decide

/-- The kernel's own semaphores: send, receive, credit. -/
abbrev Ok : Type := (Fin 4 × Fin 3) ⊕ (Fin 4 × Fin 3) ⊕ Fin 4
/-- The kernel's own semaphores as the launch names them. -/
def osem : Ok → SemLoc sig
  | .inl p => .dma (sendQ p.1 p.2)
  | .inr (.inl p) => .dma (recvQ p.1 p.2)
  | .inr (.inr k) => .reg (credQ k)
/-- All cells' semaphores: the barrier's and the kernel's own. -/
def csem : Option Ok → SemLoc sig
  | none => .reg barQ
  | some q => osem q

/-- The send cell of a slot. -/
abbrev sendC (c : Dev nD) (k : Fin 4) (s : Fin 3) : GSem nD τ sig := ((c : Thread nD τ), .dma (sendQ k s))
/-- The receive cell of a slot. -/
abbrev recvC (c : Dev nD) (k : Fin 4) (s : Fin 3) : GSem nD τ sig := ((c : Thread nD τ), .dma (recvQ k s))
/-- The credit cell of a stream. -/
abbrev credC (c : Dev nD) (k : Fin 4) : GSem nD τ sig := ((c : Thread nD τ), .reg (credQ k))
/-- The barrier's cell. -/
abbrev barC (c : Dev nD) : GSem nD τ sig := ((c : Thread nD τ), .reg barQ)
/-- A cell by its semaphore. -/
abbrev cellC (p : Dev nD × Option Ok) : GSem nD τ sig := ((p.1 : Thread nD τ), csem p.2)

/-- What one copy adds to a semaphore. -/
def N : ℕ := (slotM 0 0).view.dmaCredit
/-- A copy adds something. -/
theorem N_pos : 0 < N := View.dmaCredit_pos _ (by decide)
/-- All copies add the same. -/
theorem credit_eq (k : Fin 4) (s : Fin 3) : (slotM k s).view.dmaCredit = N := rfl
/-- All copies add the same to a semaphore of copies. -/
theorem copy_amount (k : Fin 4) (s : Fin 3) (q : DmaSem sig) : (slotM k s).view.amount (.dma q) = N := rfl

/-! ### The contents -/

section Contents

variable (X : Dev nD → Vec F S4096x256 .i8) (Wt : Dev nD → Vec F S256x2048 .i8)

/-- The rows of `x` a stream starts from. -/
def rows0 (d : Dev nD) (k : Fin 4) : Vec F S256x256 .i8 :=
  bif toRight k then (xM.access (Rect.unit (s := S4096x256) (k0_off1 d) S256x256.size (k0_off1_inb d))).read (Elt F) (X d)
  else (xM.access (Rect.unit (s := S4096x256) (k0_off2 d) S256x256.size (k0_off2_inb d))).read (Elt F) (X d)
/-- The rows of `x` the left half's product of a hop takes. -/
def rows3 (d : Dev nD) (h : ℕ) : Vec F S256x256 .i8 :=
  (xM.access (Rect.unit (s := S4096x256) (k0_off3 d (BitVec.ofNat 32 (hop15 h).val)) S256x256.size (k0_off3_inb d (hop15 h)))).read (Elt F) (X d)
/-- The rows of `x` the right half's product of a hop takes. -/
def rows4 (d : Dev nD) (h : ℕ) : Vec F S256x256 .i8 :=
  (xM.access (Rect.unit (s := S4096x256) (k0_off4 d (BitVec.ofNat 32 (hop15 h).val)) S256x256.size (k0_off4_inb d (hop15 h)))).read (Elt F) (X d)
/-- The cast weights. -/
def wbf (d : Dev nD) : FVec F S256x2048 .bf16 := k0_pay1 (Wt d)
/-- A stream's columns of the cast weights. -/
def wcols (d : Dev nD) (k : Fin 4) : FVec F S256x512 .bf16 := (cM.access (colR k)).read (Elt F) (wbf Wt d)
/-- The left half of the row of all columns. -/
abbrev halfL : Rect S256x2048 := Rect.unit (s := S256x2048) ![0, 0] S256x1024.size inb_S256x2048_S256x1024_0_0
/-- The right half. -/
abbrev halfR : Rect S256x2048 := Rect.unit (s := S256x2048) ![0, 1024] S256x1024.size inb_S256x2048_S256x1024_0_1024
/-- The left half's product of a hop. -/
def dotL (d : Dev nD) (h : ℕ) : FVec F S256x1024 .f32 := k0_pay8 (rows3 X d h) ((cM.access halfL).read (Elt F) (wbf Wt d))
/-- The right half's product of a hop. -/
def dotR (d : Dev nD) (h : ℕ) : FVec F S256x1024 .f32 := k0_pay8 (rows4 X d h) ((cM.access halfR).read (Elt F) (wbf Wt d))
/-- The place of a column inside its half. -/
def inHalf (i : S256x2048.Idx) : S256x1024.Idx := Fin.cons (i 0) (Fin.cons ⟨(i 1).val % 1024, Nat.mod_lt _ (by decide)⟩ (fun a => a.elim0))
/-- A hop's own products, both halves. -/
def tmpF (d : Dev nD) (h : ℕ) : Vec F S256x2048 .f32 := fun i =>
  if (i 1).val < 1024 then dotL X Wt d h (inHalf i) else dotR X Wt d h (inHalf i)
/-- A stream's columns of a hop's own products. -/
def tcols (d : Dev nD) (h : ℕ) (k : Fin 4) : FVec F S256x512 .f32 := (tM.access (colR k)).read (Elt F) (tmpF X Wt d h)
/-- What copy `h` of stream `k` carries away from device `d`. -/
def acc (k : Fin 4) : ℕ → Dev nD → FVec F S1x1x256x512 .bf16
  | 0, d => k0_pay3 (rows0 X d k) (wcols Wt d k)
  | h + 1, d => k0_pay11 (acc k h (inD k d)) (tcols X Wt d h k)
/-- A stream's columns of the result. -/
def outcols (al : F .f32) (d : Dev nD) (k : Fin 4) : FVec F S256x512 .f32 :=
  k0_pay122 al (acc X Wt k 14 (inD k d)) (tcols X Wt d 14 k)

end Contents

/-! ### The slots -/

/-- A slot of a device, holding `f`. -/
def slotPts (c : Dev nD) (k : Fin 4) (s : Fin 3) (f : Buf (Elt F) ((c : Thread nD τ).loc cc0_scratch0)) : sProp 𝕄 :=
  ((c : Thread nD τ).loc cc0_scratch0) ↦[(bM.access (slotR k s)).set]{fullShare} f
/-- A slot of a device, whatever it holds. -/
def slotAny (c : Dev nD) (k : Fin 4) (s : Fin 3) : sProp 𝕄 := iprop(∃ f, slotPts c k s f)
/-- A slot of a device, holding the accumulator `v`. -/
def slotIs (c : Dev nD) (k : Fin 4) (s : Fin 3) (v : Vec F S1x1x256x512 .bf16) : sProp 𝕄 :=
  iprop(∃ f : Buf (Elt F) ((c : Thread nD τ).loc cc0_scratch0), ⌜(bM.access (slotR k s)).read (Elt F) f = v⌝ ∗ slotPts c k s f)
/-- The target of copy `j`: the peer's slot, and how far its receive cell has come. -/
def Tg (c : Dev nD) (k : Fin 4) (j : ℕ) : sProp 𝕄 := iprop(slotAny c k (sl (j + 1)) ∗ reached ER (recvC c k (sl (j + 1))) (j / 3))

omit [FloatOps F] in
instance slotPts_storable (c : Dev nD) (k : Fin 4) (s : Fin 3) (f) : BI.Storable (upEmb : UEmb _ 𝕄) (slotPts (F := F) c k s f) := by
  unfold slotPts; infer_instance
omit [FloatOps F] in
instance slotAny_storable (c : Dev nD) (k : Fin 4) (s : Fin 3) : BI.Storable (upEmb : UEmb _ 𝕄) (slotAny (F := F) c k s) := by
  unfold slotAny; infer_instance
omit [FloatOps F] in
instance slotIs_storable (c : Dev nD) (k : Fin 4) (s : Fin 3) (v) : BI.Storable (upEmb : UEmb _ 𝕄) (slotIs (F := F) c k s v) := by
  unfold slotIs; infer_instance
omit [FloatOps F] in
instance Tg_storable (c : Dev nD) (k : Fin 4) (j : ℕ) : BI.Storable (upEmb : UEmb _ 𝕄) (Tg (F := F) c k j) := by
  unfold Tg; infer_instance

/-! ### The schedule -/

section Sched

variable (X : Dev nD → Vec F S4096x256 .i8) (Wt : Dev nD → Vec F S256x2048 .i8)

/-- What a payment of a given kind hands over. -/
def payOf (c : Dev nD) (q : Kd) (r d : ℕ) : sProp 𝕄 :=
  match q with
  | .bar => if d = 0 then iprop((Tg (outD 0 c) 0 0 ∗ Tg (outD 0 c) 0 1) ∗ (Tg (outD 1 c) 1 0 ∗ Tg (outD 1 c) 1 1))
      else iprop((Tg (outD 2 c) 2 0 ∗ Tg (outD 2 c) 2 1) ∗ (Tg (outD 3 c) 3 0 ∗ Tg (outD 3 c) 3 1))
  | .send k s => slotAny c k s
  | .recv k s => slotIs c k s (acc X Wt k (3 * r + (s.val + 2) % 3) (inD k c))
  | .cred k => bigSep (Finset.range (d + 1)) fun i => released ES (outD k c, k, i) 1
  | .other => iprop(emp)

/-- The duties of a kind in a round. -/
def dutiesOf (q : Kd) (r : ℕ) : Finset ℕ :=
  match q with
  | .bar => if r = 0 then {0, 1} else ∅
  | .send _ _ => if r < 5 then {0} else ∅
  | .recv _ _ => if r < 5 then {0} else ∅
  | .cred _ => if r = 0 then Finset.range 13 else ∅
  | .other => ∅

/-- How much a payment of a kind is. -/
def amountOf (q : Kd) : ℕ :=
  match q with
  | .bar => 1
  | .send _ _ => N
  | .recv _ _ => N
  | .cred _ => 1
  | .other => 1

/-- A payment is something. -/
theorem amountOf_pos (q : Kd) : 0 < amountOf q := by
  cases q
  all_goals first | exact Nat.one_pos | exact N_pos

/-- The schedule of all cells. -/
def rd : Rounds.Schedule (GSem nD τ sig) ℕ 𝕄 where
  duties g r := if g.1.2 = .tc then dutiesOf (kindOf g.2) r else ∅
  unitless _ := False
  amount g _ _ := amountOf (kindOf g.2)
  payload g r d := payOf X Wt g.1.1 (kindOf g.2) r d
  amount_pos g _ _ _ := amountOf_pos _

instance rd_payload_storable (g : GSem nD τ sig) (r d : ℕ) : BI.Storable (upEmb : UEmb _ 𝕄) ((rd (F := F) X Wt).payload g r d) := by
  show BI.Storable upEmb (payOf X Wt g.1.1 (kindOf g.2) r d)
  unfold payOf
  split
  · split <;> infer_instance
  all_goals infer_instance

variable (c : Dev nD) (k : Fin 4) (s : Fin 3)

/-- A cell's duties go by its kind. -/
theorem rd_duties (sm : SemLoc sig) (r : ℕ) : (rd (F := F) X Wt).duties ((c : Thread nD τ), sm) r = dutiesOf (kindOf sm) r := by
  dsimp only [rd]; exact if_pos rfl
/-- A cell's amounts go by its kind. -/
theorem rd_amount (sm : SemLoc sig) (r d : ℕ) : (rd (F := F) X Wt).amount ((c : Thread nD τ), sm) r d = amountOf (kindOf sm) := rfl
/-- A cell's payments go by its kind. -/
theorem rd_payload (sm : SemLoc sig) (r d : ℕ) :
    (rd (F := F) X Wt).payload ((c : Thread nD τ), sm) r d = payOf X Wt c (kindOf sm) r d := rfl

/-- The barrier cell's duties. -/
theorem duties_bar : (rd (F := F) X Wt).duties (barC c) 0 = {0, 1} := by
  rw [rd_duties, kind_bar]; rfl
/-- A send cell's duty. -/
theorem duties_send {r : ℕ} (hr : r < 5) : (rd (F := F) X Wt).duties (sendC c k s) r = {0} := by
  rw [rd_duties, kind_send]; exact if_pos hr
/-- A receive cell's duty. -/
theorem duties_recv {r : ℕ} (hr : r < 5) : (rd (F := F) X Wt).duties (recvC c k s) r = {0} := by
  rw [rd_duties, kind_recv]; exact if_pos hr
/-- A credit cell's duties. -/
theorem duties_cred : (rd (F := F) X Wt).duties (credC c k) 0 = Finset.range 13 := by
  rw [rd_duties, kind_cred]; rfl
/-- No cell has a duty past the fifth round. -/
theorem duties_late (g : GSem nD τ sig) (r : ℕ) (hr : 5 ≤ r) : (rd (F := F) X Wt).duties g r = ∅ := by
  dsimp only [rd]
  split
  · unfold dutiesOf; split
    all_goals first | rfl | exact if_neg (by omega)
  · rfl
/-- The barrier cell has no duty past the first round. -/
theorem duties_bar_late (r : ℕ) (hr : 1 ≤ r) : (rd (F := F) X Wt).duties (barC c) r = ∅ := by
  rw [rd_duties, kind_bar]; exact if_neg (by omega)
/-- A credit cell has no duty past the first round. -/
theorem duties_cred_late (r : ℕ) (hr : 1 ≤ r) : (rd (F := F) X Wt).duties (credC c k) r = ∅ := by
  rw [rd_duties, kind_cred]; exact if_neg (by omega)

/-- The barrier's payments are single units. -/
theorem amount_bar (r d : ℕ) : (rd (F := F) X Wt).amount (barC c) r d = 1 := by
  rw [rd_amount, kind_bar]; rfl
/-- A send cell's payment is a copy's. -/
theorem amount_send (r d : ℕ) : (rd (F := F) X Wt).amount (sendC c k s) r d = N := by
  rw [rd_amount, kind_send]; rfl
/-- A receive cell's payment is a copy's. -/
theorem amount_recv (r d : ℕ) : (rd (F := F) X Wt).amount (recvC c k s) r d = N := by
  rw [rd_amount, kind_recv]; rfl
/-- The credits are single units. -/
theorem amount_cred (r d : ℕ) : (rd (F := F) X Wt).amount (credC c k) r d = 1 := by
  rw [rd_amount, kind_cred]; rfl

/-- The barrier cell expects two units. -/
theorem expect_bar : (rd (F := F) X Wt).expect (barC c) 0 = 2 := by
  unfold Schedule.expect Schedule.amountOf
  rw [duties_bar, Finset.sum_congr rfl fun d _ => amount_bar X Wt c 0 d]; rfl
/-- A send cell expects one copy. -/
theorem expect_send {r : ℕ} (hr : r < 5) : (rd (F := F) X Wt).expect (sendC c k s) r = N := by
  unfold Schedule.expect Schedule.amountOf; rw [duties_send X Wt c k s hr, Finset.sum_singleton, amount_send]
/-- A receive cell expects one copy. -/
theorem expect_recv {r : ℕ} (hr : r < 5) : (rd (F := F) X Wt).expect (recvC c k s) r = N := by
  unfold Schedule.expect Schedule.amountOf; rw [duties_recv X Wt c k s hr, Finset.sum_singleton, amount_recv]
/-- A credit cell expects thirteen units. -/
theorem expect_cred : (rd (F := F) X Wt).expect (credC c k) 0 = 13 := by
  unfold Schedule.expect Schedule.amountOf
  rw [duties_cred, Finset.sum_congr rfl fun d _ => amount_cred X Wt c k 0 d, Finset.sum_const, Finset.card_range]; rfl

/-- What the barrier's payments hand over. -/
theorem payload_bar (r d : ℕ) : (rd (F := F) X Wt).payload (barC c) r d = payOf X Wt c .bar r d := by
  rw [rd_payload, kind_bar]
/-- A send cell's payment hands the source slot back. -/
theorem payload_send (r d : ℕ) : (rd (F := F) X Wt).payload (sendC c k s) r d = slotAny c k s := by
  rw [rd_payload, kind_send]; rfl
/-- A receive cell's payment hands the filled slot over. -/
theorem payload_recv (r d : ℕ) : (rd (F := F) X Wt).payload (recvC c k s) r d
    = slotIs c k s (acc X Wt k (3 * r + (s.val + 2) % 3) (inD k c)) := by
  rw [rd_payload, kind_recv]; rfl
/-- A credit hands over that its slots were given back. -/
theorem payload_cred (r d : ℕ) : (rd (F := F) X Wt).payload (credC c k) r d
    = bigSep (Finset.range (d + 1)) fun i => released ES (outD k c, k, i) 1 := by
  rw [rd_payload, kind_cred]; rfl

end Sched

/-- The round of copy `j` at the receive cell of its slot. -/
theorem recv_round (j : ℕ) : 3 * (j / 3) + ((sl (j + 1)).val + 2) % 3 = j := by
  show 3 * (j / 3) + ((j + 1) % 3 + 2) % 3 = j; omega
/-- Slots come round after three copies. -/
theorem sl_add3 (j : ℕ) : sl (j + 3) = sl j := Fin.ext (by show (j + 3) % 3 = j % 3; omega)

/-! ### What is owed -/

/-- An interval is its first element and the rest. -/
theorem Ico_pop {a n : ℕ} (h : a < n) : Finset.Ico a n = insert a (Finset.Ico (a + 1) n) := by
  ext x; rw [Finset.mem_insert, Finset.mem_Ico, Finset.mem_Ico]; omega
/-- The first element is not in the rest. -/
theorem Ico_not_mem (a n : ℕ) : a ∉ Finset.Ico (a + 1) n := fun h => by rw [Finset.mem_Ico] at h; omega

/-- The copies of stream `k` from `a` on, owed to the next device. -/
def recvOwe (c : Dev nD) (k : Fin 4) (a : ℕ) : CellTallies nD τ sig ℕ :=
  ∑ j ∈ Finset.Ico a 15, tallyAt (recvC (outD k c) k (sl (j + 1))) j N
/-- The credits of stream `k` from `b` on, owed to the device before. -/
def credOwe (c : Dev nD) (k : Fin 4) (b : ℕ) : CellTallies nD τ sig ℕ :=
  ∑ j ∈ Finset.Ico b 13, tallyAt (credC (inD k c) k) j 1
/-- All a device still owes once the barrier is signalled: copies from `a` on and credits from `b` on. -/
def Ow (a b : Fin 4 → ℕ) (c : Dev nD) : CellTallies nD τ sig ℕ := ∑ k, (recvOwe c k (a k) + credOwe c k (b k))
/-- All a device owes at the start. -/
def O₁ (c : Dev nD) : CellTallies nD τ sig ℕ := Ow (fun _ => 0) (fun _ => 0) c + tallyAt (barC (rgt c)) 0 1
/-- All a device owes at the start. -/
def O₀ (c : Dev nD) : CellTallies nD τ sig ℕ := O₁ c + tallyAt (barC (lft c)) 0 1

/-- Starting a copy pays one. -/
theorem recvOwe_pop (c : Dev nD) (k : Fin 4) {a : ℕ} (ha : a < 15) :
    recvOwe c k a = recvOwe c k (a + 1) + tallyAt (recvC (outD k c) k (sl (a + 1))) a N := by
  unfold recvOwe; rw [Ico_pop ha, Finset.sum_insert (Ico_not_mem _ _), add_comm]
/-- Giving a credit pays one. -/
theorem credOwe_pop (c : Dev nD) (k : Fin 4) {b : ℕ} (hb : b < 13) :
    credOwe c k b = credOwe c k (b + 1) + tallyAt (credC (inD k c) k) b 1 := by
  unfold credOwe; rw [Ico_pop hb, Finset.sum_insert (Ico_not_mem _ _), add_comm]

/-- Starting a copy pays one of all. -/
theorem Ow_send (a b : Fin 4 → ℕ) (c : Dev nD) (k : Fin 4) (h : a k < 15) :
    Ow a b c = Ow (Function.update a k (a k + 1)) b c + tallyAt (recvC (outD k c) k (sl (a k + 1))) (a k) N := by
  unfold Ow
  rw [← Finset.add_sum_erase _ _ (Finset.mem_univ k), ← Finset.add_sum_erase (a := k) _ (fun k' => _ + _) (Finset.mem_univ k),
    Function.update_self, recvOwe_pop c k h]
  rw [Finset.sum_congr rfl (g := fun k' => recvOwe c k' (Function.update a k (a k + 1) k') + credOwe c k' (b k'))
    (fun k' hk' => by rw [Function.update_of_ne (Finset.ne_of_mem_erase hk')])]
  ac_rfl
/-- Giving a credit pays one of all. -/
theorem Ow_credit (a b : Fin 4 → ℕ) (c : Dev nD) (k : Fin 4) (h : b k < 13) :
    Ow a b c = Ow a (Function.update b k (b k + 1)) c + tallyAt (credC (inD k c) k) (b k) 1 := by
  unfold Ow
  rw [← Finset.add_sum_erase _ _ (Finset.mem_univ k), ← Finset.add_sum_erase (a := k) _ (fun k' => _ + _) (Finset.mem_univ k),
    Function.update_self, credOwe_pop c k h]
  rw [Finset.sum_congr rfl (g := fun k' => recvOwe c k' (a k') + credOwe c k' (Function.update b k (b k + 1) k'))
    (fun k' hk' => by rw [Function.update_of_ne (Finset.ne_of_mem_erase hk')])]
  ac_rfl
/-- At the end nothing is owed. -/
theorem Ow_end (c : Dev nD) : Ow (fun _ => 15) (fun _ => 13) c = 0 := by
  unfold Ow recvOwe credOwe
  simp

/-- What is owed is a copy or a credit not yet given. -/
theorem Ow_pos {a b : Fin 4 → ℕ} {c : Dev nD} {g : GSem nD τ sig} {u : ℕ} (h : 0 < Ow a b c g u) :
    ∃ k, (a k ≤ u ∧ u < 15 ∧ g = recvC (outD k c) k (sl (u + 1))) ∨ (b k ≤ u ∧ u < 13 ∧ g = credC (inD k c) k) := by
  unfold Ow at h
  rw [Finset.sum_apply, Finsupp.finset_sum_apply] at h
  obtain ⟨k, -, hk⟩ := Finset.exists_ne_zero_of_sum_ne_zero h.ne'
  refine ⟨k, ?_⟩
  rw [Pi.add_apply, Finsupp.add_apply] at hk
  rcases Nat.eq_zero_or_pos (recvOwe c k (a k) g u) with h1 | h1
  · rw [h1, zero_add] at hk
    unfold credOwe at hk
    rw [Finset.sum_apply, Finsupp.finset_sum_apply] at hk
    obtain ⟨j, hj, hjk⟩ := Finset.exists_ne_zero_of_sum_ne_zero hk
    rw [tallyAt_apply] at hjk
    have hg : g = credC (inD k c) k ∧ u = j := by
      by_contra hn; exact hjk (if_neg hn)
    rw [Finset.mem_Ico] at hj
    exact .inr ⟨hg.2 ▸ hj.1, hg.2 ▸ hj.2, hg.1⟩
  · unfold recvOwe at h1
    rw [Finset.sum_apply, Finsupp.finset_sum_apply] at h1
    obtain ⟨j, hj, hjk⟩ := Finset.exists_ne_zero_of_sum_ne_zero h1.ne'
    rw [tallyAt_apply] at hjk
    have hg : g = recvC (outD k c) k (sl (j + 1)) ∧ u = j := by
      by_contra hn; exact hjk (if_neg hn)
    rw [Finset.mem_Ico] at hj
    exact .inl ⟨hg.2 ▸ hj.1, hg.2 ▸ hj.2, by rw [hg.2]; exact hg.1⟩

/-! ### The order of the waits -/

/-- The indices of a cell. -/
def L (g : GSem nD τ sig) : Finset ℕ := if g.1.2 = .tc then Finset.range 16 else ∅
/-- The level of an index of a cell. -/
def lv (g : GSem nD τ sig) (j : ℕ) : ℕ :=
  match kindOf g.2 with
  | .bar => 1
  | .send _ _ => 0
  | .recv _ _ => 2 * j + 2
  | .cred _ => 2 * j + 3
  | .other => 0

theorem L_of_ne (g : GSem nD τ sig) (h : g.1.2 ≠ .tc) : L g = ∅ := if_neg h
theorem L_tc (c : Dev nD) (sm : SemLoc sig) : L ((c : Thread nD τ), sm) = Finset.range 16 := if_pos rfl
theorem lv_bar (c : Dev nD) (j : ℕ) : lv (barC c) j = 1 := by unfold lv; rw [kind_bar]
theorem lv_send (c : Dev nD) (k : Fin 4) (s : Fin 3) (j : ℕ) : lv (sendC c k s) j = 0 := by unfold lv; rw [kind_send]
theorem lv_recv (c : Dev nD) (k : Fin 4) (s : Fin 3) (j : ℕ) : lv (recvC c k s) j = 2 * j + 2 := by unfold lv; rw [kind_recv]
theorem lv_cred (c : Dev nD) (k : Fin 4) (j : ℕ) : lv (credC c k) j = 2 * j + 3 := by unfold lv; rw [kind_cred]

omit [FloatOps F] in
/-- A device may wait on a cell of its own below all it owes. -/
theorem mayWait_of (c : Dev nD) (sm : SemLoc sig) (ι n : ℕ) (O : CellTallies nD τ sig ℕ) (hι : ι < 16)
    (hlv : lv ((c : Thread nD τ), sm) ι ≤ n) (hO : ∀ g u, 0 < O g u → g.1.2 = .tc ∧ u < 16 ∧ n < lv g u) :
    (levAts L lv : sProp 𝕄) ⊢ MayWait (c : Thread nD τ) sm ι O :=
  MayOwe.of_cut (L := L) (lev := lv) n
    (fun p hp => by rw [Finset.mem_singleton.mp hp, L_tc]; exact Finset.mem_range.mpr hι)
    (fun g u hg => by rw [show L g = Finset.range 16 from if_pos (hO g u hg).1]; exact Finset.mem_range.mpr (hO g u hg).2.1)
    (fun p hp => by rw [Finset.mem_singleton.mp hp]; exact hlv)
    (fun g u hg => (hO g u hg).2.2)

/-- What is owed lies above a bound below all copies and credits still to come. -/
theorem Ow_above {a b : Fin 4 → ℕ} {c : Dev nD} {n : ℕ} (ha : ∀ k, n < 2 * a k + 2) (hb : ∀ k, n < 2 * b k + 3)
    (g : GSem nD τ sig) (u : ℕ) (h : 0 < Ow a b c g u) : g.1.2 = .tc ∧ u < 16 ∧ n < lv g u := by
  obtain ⟨k, ⟨h1, h2, rfl⟩ | ⟨h1, h2, rfl⟩⟩ := Ow_pos h
  · refine ⟨rfl, by omega, ?_⟩; rw [lv_recv]; have := ha k; omega
  · refine ⟨rfl, by omega, ?_⟩; rw [lv_cred]; have := hb k; omega

/-- What is owed at the start lies above the staging copies. -/
theorem O₀_above (c : Dev nD) (g : GSem nD τ sig) (u : ℕ) (h : 0 < O₀ c g u) : g.1.2 = .tc ∧ u < 16 ∧ 0 < lv g u := by
  unfold O₀ O₁ at h
  rw [Pi.add_apply, Finsupp.add_apply, Pi.add_apply, Finsupp.add_apply, tallyAt_apply, tallyAt_apply] at h
  by_cases h1 : g = barC (rgt c) ∧ u = 0
  · obtain ⟨rfl, rfl⟩ := h1; exact ⟨rfl, by decide, by rw [lv_bar]; decide⟩
  by_cases h2 : g = barC (lft c) ∧ u = 0
  · obtain ⟨rfl, rfl⟩ := h2; exact ⟨rfl, by decide, by rw [lv_bar]; decide⟩
  rw [if_neg h1, if_neg h2, add_zero, add_zero] at h
  exact Ow_above (fun k => by omega) (fun k => by omega) g u h

end Cert.KernelIdeal.Hand
-- ==== Proof.Steps.lean ====
/- The steps of the kernel, each with what it needs and what it leaves. -/
module

public import proofs.«01_k».proof.Proof.Sched

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

/-- No function is called. -/
abbrev 𝒱₀ : Variants := Variants.none

/-- A program of device `c` ends in `Q`. -/
abbrev WP (c : Dev nD) {α : Type} (p : P F α) (Q : α → sProp 𝕄) : sProp 𝕄 :=
  wp frame (wpE (defs₀ (F := F)) 𝒱₀ (c : Thread nD τ) none) Set.univ p Q

/-! ### Views of a slot -/

omit [FloatOps F] in
/-- A slot's elements, by the copies' view and by the box. -/
theorem slot_set (k : Fin 4) (s : Fin 3) : (slotM k s).view.set = (bM.access (slotR k s)).set := View.set_reshape _ _

omit [FloatOps F] in
/-- A slot as the loads and stores see it. -/
theorem slotPts_acc (c : Dev nD) (k : Fin 4) (s : Fin 3) (f : Buf (Elt F) ((c : Thread nD τ).loc cc0_scratch0)) :
    slotPts c k s f = ((bM.access (slotR k s)).loc (c : Thread nD τ) ↦[(bM.access (slotR k s)).set]{fullShare} f : sProp 𝕄) := rfl
omit [FloatOps F] in
/-- A slot as the copies see it. -/
theorem slotPts_mem (c : Dev nD) (k : Fin 4) (s : Fin 3) (f : Buf (Elt F) ((c : Thread nD τ).loc cc0_scratch0)) :
    slotPts c k s f = ((slotM k s).view.loc (c : Thread nD τ) ↦[(slotM k s).view.set]{fullShare} f : sProp 𝕄) := by
  rw [slot_set]; rfl

/-- The buffer of the target slot after a copy from the source slot. -/
def copied (k : Fin 4) (s s' : Fin 3) (fs fd : (cc0_scratch0 : Ref sig .tc).ty.Contents (Elt F)) : (cc0_scratch0 : Ref sig .tc).ty.Contents (Elt F) :=
  (slotM k s').view.write (Elt F) fd ((slotM k s).view.read (Elt F) fs) Finset.univ

omit [FloatOps F] in
/-- What a copy writes into the target slot is what the source slot held. -/
theorem copy_read (k : Fin 4) (s s' : Fin 3) (fs fd : (cc0_scratch0 : Ref sig .tc).ty.Contents (Elt F)) :
    (bM.access (slotR k s')).read (Elt F) (copied k s s' fs fd) = (bM.access (slotR k s)).read (Elt F) fs := by
  funext y
  obtain ⟨x, rfl⟩ := (Shape.reshapeEquiv squeezes_S1x1x256x512_S256x512.numel_eq).surjective y
  exact (congrFun (View.read_write_univ (v := (slotM k s').view) (Val := Elt F) fd ((slotM k s).view.read (Elt F) fs)) x)

/-! ### Loads and stores -/

/-- Read a slot. -/
theorem get_step (c : Dev nD) (k : Fin 4) (s : Fin 3) (v : Vec F S1x1x256x512 .bf16) (Q : Vec F S1x1x256x512 .bf16 → sProp 𝕄) :
    slotIs c k s v ⊢ iprop((slotIs c k s v -∗ Q v) -∗ WP c (pGet k s) Q) := by
  unfold slotIs pGet Prog.lift
  iintro ⟨%f, %hf, Hs0⟩ Hk
  ihave Hs := (Entails.of_eq (slotPts_acc c k s f)) $$ Hs0
  iapply (wp_load_rect 𝒱₀ (c : Thread nD τ) none Set.univ (m := bM) (r := (slotR k s)) subset_rfl) $$ Hs
  iintro Hs
  rw [wp_ret]; imodintro
  rw [hf]
  iapply Hk
  iexists f
  isplitr; · ipureintro; exact hf
  iapply (Entails.of_eq (slotPts_acc c k s f).symm); iexact Hs

/-- Write a slot. -/
theorem put_step (c : Dev nD) (k : Fin 4) (s : Fin 3) (v : Vec F S1x1x256x512 .bf16) (Q : PUnit → sProp 𝕄) :
    slotAny c k s ⊢ iprop((slotIs c k s v -∗ Q ⟨⟩) -∗ WP c (pPut k s v) Q) := by
  unfold slotAny slotIs pPut
  simp only [Prog.lift, Prog.bind_op, Prog.bind_ret]
  iintro ⟨%f, Hs0⟩ Hk
  ihave Hs := (Entails.of_eq (slotPts_acc c k s f)) $$ Hs0
  iapply (wp_load_rect 𝒱₀ (c : Thread nD τ) none Set.univ (m := bM) (r := (slotR k s)) subset_rfl) $$ Hs
  iintro Hs
  iapply (wp_store 𝒱₀ (c : Thread nD τ) none Set.univ (m := bM) (r := slotR k s) (Mk := Finset.univ) (S := (bM.access (slotR k s)).set)
    subset_rfl) $$ Hs
  iintro Hs
  rw [wp_ret]; imodintro
  iapply Hk
  iexists ((bM.access (slotR k s)).write (Elt F) f v Finset.univ)
  isplitr
  · ipureintro; exact View.read_write_univ _ _
  iapply (Entails.of_eq (slotPts_acc c k s _).symm); iexact Hs

/-- The offsets of a whole buffer. -/
theorem off00 : (![0, 0] : Fin 2 → Nat) = fun _ => 0 := funext fun a => by fin_cases a <;> rfl

section Mem

variable (X : Dev nD → Vec F S4096x256 .i8) (Wt : Dev nD → Vec F S256x2048 .i8)

/-- Read the stream's columns of the products. -/
theorem tmp_step (c : Dev nD) (k : Fin 4) (h : ℕ) (Q : Vec F S256x512 .f32 → sProp 𝕄) :
    (((c : Thread nD τ).loc cc0_scratch2) ↦{fullShare} tmpF X Wt c h : sProp 𝕄)
      ⊢ iprop(((((c : Thread nD τ).loc cc0_scratch2) ↦{fullShare} tmpF X Wt c h) -∗ Q (tcols X Wt c h k)) -∗ WP c (pTmp k) Q) := by
  unfold pTmp tcols Prog.lift
  iintro Hs Hk
  iapply (wp_load_rect 𝒱₀ (c : Thread nD τ) none Set.univ (m := tM) (r := colR k) (Finset.subset_univ _)) $$ Hs
  iintro Hs
  rw [wp_ret]; imodintro
  iapply Hk; iexact Hs

/-- Read the stream's columns of the cast weights. -/
theorem wcols_step (c : Dev nD) (k : Fin 4) (Q : Vec F S256x512 .bf16 → sProp 𝕄) :
    (((c : Thread nD τ).loc cc0_scratch1) ↦{fullShare} wbf Wt c : sProp 𝕄)
      ⊢ iprop(((((c : Thread nD τ).loc cc0_scratch1) ↦{fullShare} wbf Wt c) -∗ Q (wcols Wt c k))
        -∗ WP c (Prog.lift (.load cM (colR k).toLoadRect (View.loadsAt_vmem h_S256x512))) Q) := by
  unfold wcols Prog.lift
  iintro Hs Hk
  iapply (wp_load_rect 𝒱₀ (c : Thread nD τ) none Set.univ (m := cM) (r := colR k) (Finset.subset_univ _)) $$ Hs
  iintro Hs
  rw [wp_ret]; imodintro
  iapply Hk; iexact Hs

/-- Read the rows a stream starts from. -/
theorem rows_step (c : Dev nD) (k : Fin 4) (Q : Vec F S256x256 .i8 → sProp 𝕄) :
    (((c : Thread nD τ).loc cc0_stg0_0) ↦{fullShare} X c : sProp 𝕄)
      ⊢ iprop(((((c : Thread nD τ).loc cc0_stg0_0) ↦{fullShare} X c) -∗ Q (rows0 X c k)) -∗ WP c (pRows k c) Q) := by
  unfold pRows rows0 Prog.lift
  cases toRight k
  · simp only [cond_false]
    iintro Hs Hk
    iapply (wp_load_rect 𝒱₀ (c : Thread nD τ) none Set.univ (m := xM)
      (r := Rect.unit (s := S4096x256) (k0_off2 c) S256x256.size (k0_off2_inb c)) (Finset.subset_univ _)) $$ Hs
    iintro Hs
    rw [wp_ret]; imodintro
    iapply Hk; iexact Hs
  · simp only [cond_true]
    iintro Hs Hk
    iapply (wp_load_rect 𝒱₀ (c : Thread nD τ) none Set.univ (m := xM)
      (r := Rect.unit (s := S4096x256) (k0_off1 c) S256x256.size (k0_off1_inb c)) (Finset.subset_univ _)) $$ Hs
    iintro Hs
    rw [wp_ret]; imodintro
    iapply Hk; iexact Hs

omit [FloatOps F] in
/-- Writing both halves writes all. -/
theorem write_halves (f : Vec F S256x2048 .f32) (a b : FVec F S256x1024 .f32) :
    (tM.access halfR).write (Elt F) ((tM.access halfL).write (Elt F) f a Finset.univ) b Finset.univ
      = fun i => if (i 1).val < 1024 then a (inHalf i) else b (inHalf i) := by
  funext i
  by_cases hi : (i 1).val < 1024
  · rw [if_pos hi]
    have he : i = (tM.access halfL).emb (inHalf i) := by
      funext a; fin_cases a <;> refine Fin.ext ?_
      · show (i 0).val = 0 + 1 * (i 0).val; omega
      · show (i 1).val = 0 + 1 * ((i 1).val % 1024); omega
    rw [View.write_of_not_mem]
    · conv_lhs => rw [he]
      exact (View.write_emb_of_mem _ _ (Finset.mem_univ _))
    · intro hm
      obtain ⟨j, -, hj⟩ := Finset.mem_map.mp hm
      have h1 : (1024 + 1 * (j 1).val : ℕ) = (i 1).val := congrArg (fun y : S256x2048.Idx => (y 1).val) hj
      omega
  · rw [if_neg hi]
    have h2 : (i 1).val < 2048 := (i 1).isLt
    have he : i = (tM.access halfR).emb (inHalf i) := by
      funext a; fin_cases a <;> refine Fin.ext ?_
      · show (i 0).val = 0 + 1 * (i 0).val; omega
      · show (i 1).val = 1024 + 1 * ((i 1).val % 1024); omega
    conv_lhs => rw [he]
    exact (View.write_emb_of_mem _ _ (Finset.mem_univ _))

/-- The hop's own products. -/
theorem dots_step (c : Dev nD) (h : ℕ) (Q : PUnit → sProp 𝕄) :
    iprop((((c : Thread nD τ).loc cc0_stg0_0) ↦{fullShare} X c) ∗ (((c : Thread nD τ).loc cc0_scratch1) ↦{fullShare} wbf Wt c)
        ∗ (∃ f, ((c : Thread nD τ).loc cc0_scratch2) ↦{fullShare} f) : sProp 𝕄)
      ⊢ iprop(((((c : Thread nD τ).loc cc0_stg0_0) ↦{fullShare} X c) ∗ (((c : Thread nD τ).loc cc0_scratch1) ↦{fullShare} wbf Wt c)
        ∗ (((c : Thread nD τ).loc cc0_scratch2) ↦{fullShare} tmpF X Wt c h) -∗ Q ⟨⟩) -∗ WP c (pDots c h) Q) := by
  unfold pDots
  simp only [Prog.lift, Prog.bind_op, Prog.bind_ret]
  iintro ⟨Hx, Hc, ⟨%f, Ht⟩⟩ Hk
  iapply (wp_load_rect 𝒱₀ (c : Thread nD τ) none Set.univ (m := xM)
    (r := Rect.unit (s := S4096x256) (k0_off3 c (BitVec.ofNat 32 (hop15 h).val)) S256x256.size (k0_off3_inb c (hop15 h))) (Finset.subset_univ _)) $$ Hx; iintro Hx
  iapply (wp_load_rect 𝒱₀ (c : Thread nD τ) none Set.univ (m := cM) (r := halfL) (Finset.subset_univ _)) $$ Hc; iintro Hc
  iapply (wp_load_rect 𝒱₀ (c : Thread nD τ) none Set.univ (m := tM) (r := halfL) (Finset.subset_univ _)) $$ Ht; iintro Ht
  iapply (wp_store 𝒱₀ (c : Thread nD τ) none Set.univ (m := tM) (r := halfL) (Mk := Finset.univ) (Finset.subset_univ _)) $$ Ht; iintro Ht
  iapply (wp_load_rect 𝒱₀ (c : Thread nD τ) none Set.univ (m := xM)
    (r := Rect.unit (s := S4096x256) (k0_off4 c (BitVec.ofNat 32 (hop15 h).val)) S256x256.size (k0_off4_inb c (hop15 h))) (Finset.subset_univ _)) $$ Hx; iintro Hx
  iapply (wp_load_rect 𝒱₀ (c : Thread nD τ) none Set.univ (m := cM) (r := halfR) (Finset.subset_univ _)) $$ Hc; iintro Hc
  iapply (wp_load_rect 𝒱₀ (c : Thread nD τ) none Set.univ (m := tM) (r := halfR) (Finset.subset_univ _)) $$ Ht; iintro Ht
  iapply (wp_store 𝒱₀ (c : Thread nD τ) none Set.univ (m := tM) (r := halfR) (Mk := Finset.univ) (Finset.subset_univ _)) $$ Ht; iintro Ht
  rw [wp_ret]; imodintro
  iapply Hk
  isplitl [Hx]; · iexact Hx
  isplitl [Hc]; · iexact Hc
  iapply (Entails.of_eq (congrArg (fun g => (((c : Thread nD τ).loc cc0_scratch2) ↦{fullShare} g : sProp 𝕄))
    (write_halves f (dotL X Wt c h) (dotR X Wt c h))))
  iexact Ht

/-- The cast weights as written. -/
theorem cast_write (c : Dev nD) (f : Vec F S256x2048 .bf16) :
    (cM.access (Rect.unit (s := S256x2048) ![0, 0] S256x2048.size inb_S256x2048_S256x2048_0_0)).write (Elt F) f
      (k0_pay1 (wM.view.readAt (Elt F) (Rect.unit (s := S256x2048) ![0, 0] S256x2048.size inb_S256x2048_S256x2048_0_0).toLoadRect (Wt c))) Finset.univ
      = wbf Wt c := by
  refine (Memref.write_access_unit_zero_univ (Elt F) cc0_scratch1 off00 inb_S256x2048_S256x2048_0_0 f _).trans ?_
  exact congrArg k0_pay1 (Memref.readAt_unit_zero (Elt F) cc0_stg1_0 off00 inb_S256x2048_S256x2048_0_0 (Wt c))

/-- Cast the weights. -/
theorem cast_step (c : Dev nD) (Q : PUnit → sProp 𝕄) :
    iprop((((c : Thread nD τ).loc cc0_stg1_0) ↦{fullShare} Wt c) ∗ (∃ f, ((c : Thread nD τ).loc cc0_scratch1) ↦{fullShare} f) : sProp 𝕄)
      ⊢ iprop(((((c : Thread nD τ).loc cc0_stg1_0) ↦{fullShare} Wt c) ∗ (((c : Thread nD τ).loc cc0_scratch1) ↦{fullShare} wbf Wt c) -∗ Q ⟨⟩)
        -∗ WP c pCast Q) := by
  unfold pCast
  simp only [Prog.lift, Prog.bind_op, Prog.bind_ret]
  iintro ⟨Hw, ⟨%f, Hc⟩⟩ Hk
  iapply (wp_load 𝒱₀ (c : Thread nD τ) none Set.univ (m := wM) (Finset.subset_univ _)) $$ Hw; iintro Hw
  iapply (wp_load 𝒱₀ (c : Thread nD τ) none Set.univ (m := cM) (Finset.subset_univ _)) $$ Hc; iintro Hc
  iapply (wp_store 𝒱₀ (c : Thread nD τ) none Set.univ (m := cM)
    (r := Rect.unit (s := S256x2048) ![0, 0] S256x2048.size inb_S256x2048_S256x2048_0_0) (Mk := Finset.univ) (Finset.subset_univ _)) $$ Hc; iintro Hc
  rw [wp_ret]; imodintro
  iapply Hk
  isplitl [Hw]; · iexact Hw
  iapply (Entails.of_eq (congrArg (fun g => (((c : Thread nD τ).loc cc0_scratch1) ↦{fullShare} g : sProp 𝕄))
    (cast_write Wt c f)))
  iexact Hc

/-- The product of the two scales. -/
def alphaOf (f g : Vec F S1 .f32) : F .f32 :=
  k0_pay2 ((sxM.access (Rect.unit (s := S1) ![0] S1.size inb_S1_S1_0)).read (Elt F) f (Shape.Idx.first (numel1_S1.symm ▸ Nat.one_pos)))
    ((swM.access (Rect.unit (s := S1) ![0] S1.size inb_S1_S1_0)).read (Elt F) g (Shape.Idx.first (numel1_S1.symm ▸ Nat.one_pos)))

/-- Read the scales. -/
theorem scale_step (c : Dev nD) (f g : Vec F S1 .f32) (Q : F .f32 → sProp 𝕄) :
    iprop((((c : Thread nD τ).loc cc0_stg2_0) ↦{fullShare} f) ∗ (((c : Thread nD τ).loc cc0_stg3_0) ↦{fullShare} g) : sProp 𝕄)
      ⊢ iprop(((((c : Thread nD τ).loc cc0_stg2_0) ↦{fullShare} f) ∗ (((c : Thread nD τ).loc cc0_stg3_0) ↦{fullShare} g) -∗ Q (alphaOf f g))
        -∗ WP c pScale Q) := by
  unfold alphaOf pScale smemLoad smemLoadElt
  simp only [Prog.lift, Prog.bind_op, Prog.bind_ret, Prog.pure_eq_ret]
  iintro ⟨Hf, Hg⟩ Hk
  iapply (wp_load_rect 𝒱₀ (c : Thread nD τ) none Set.univ (m := sxM) (r := Rect.unit (s := S1) ![0] S1.size inb_S1_S1_0)
    (Finset.subset_univ _)) $$ Hf; iintro Hf
  iapply (wp_load_rect 𝒱₀ (c : Thread nD τ) none Set.univ (m := swM) (r := Rect.unit (s := S1) ![0] S1.size inb_S1_S1_0)
    (Finset.subset_univ _)) $$ Hg; iintro Hg
  rw [wp_ret]; imodintro
  iapply Hk
  isplitl [Hf]; · iexact Hf
  iexact Hg

/-- The result: every stream's columns. -/
def outF (al : F .f32) (c : Dev nD) : Vec F S256x2048 .f32 := fun i =>
  outcols X Wt al c ⟨(i 1).val / 512 % 4, Nat.mod_lt _ (by decide)⟩
    (Fin.cons (i 0) (Fin.cons ⟨(i 1).val % 512, Nat.mod_lt _ (by decide)⟩ (fun a => a.elim0)))

/-- The columns of the streams in `D` are the result's. -/
def OutOk (al : F .f32) (c : Dev nD) (D : Finset (Fin 4)) (f : Vec F S256x2048 .f32) : Prop :=
  ∀ i : S256x2048.Idx, (∃ k ∈ D, (i 1).val / 512 = k.val) → f i = outF X Wt al c i

/-- Writing a stream's columns makes them right and leaves the others. -/
theorem outOk_write (al : F .f32) (c : Dev nD) (D : Finset (Fin 4)) (k : Fin 4) (f : Vec F S256x2048 .f32) (hf : OutOk X Wt al c D f) :
    OutOk X Wt al c (insert k D) ((oM.access (colR k)).write (Elt F) f (outcols X Wt al c k) Finset.univ) := by
  intro i hi
  obtain ⟨k', hk', hik⟩ := hi
  by_cases h : (i 1).val / 512 = k.val
  · have he : i = (oM.access (colR k)).emb (Fin.cons (i 0) (Fin.cons ⟨(i 1).val % 512, Nat.mod_lt _ (by decide)⟩ (fun a => a.elim0))) := by
      funext a; fin_cases a <;> refine Fin.ext ?_
      · show (i 0).val = 0 + 1 * (i 0).val; omega
      · show (i 1).val = 512 * k.val + 1 * ((i 1).val % 512); omega
    have hk : (⟨(i 1).val / 512 % 4, Nat.mod_lt _ (by decide)⟩ : Fin 4) = k := Fin.ext (by
      show (i 1).val / 512 % 4 = k.val; have := k.isLt; omega)
    unfold outF; rw [hk]
    conv_lhs => rw [he]
    exact (View.write_emb_of_mem _ _ (Finset.mem_univ _))
  · rw [View.write_of_not_mem]
    · refine hf i ⟨k', ?_, hik⟩
      rcases Finset.mem_insert.mp hk' with rfl | h'
      · exact absurd hik h
      · exact h'
    · intro hm
      obtain ⟨j, -, hj⟩ := Finset.mem_map.mp hm
      have h1 : (512 * k.val + 1 * (j 1).val : ℕ) = (i 1).val := congrArg (fun y : S256x2048.Idx => (y 1).val) hj
      have h2 : (j 1).val < 512 := (j 1).isLt
      omega

/-- Every stream's columns are all columns. -/
theorem outOk_univ (al : F .f32) (c : Dev nD) (f : Vec F S256x2048 .f32) (hf : OutOk X Wt al c Finset.univ f) : f = outF X Wt al c := by
  funext i
  have h2 : (i 1).val < 2048 := (i 1).isLt
  exact hf i ⟨⟨(i 1).val / 512, by omega⟩, Finset.mem_univ _, rfl⟩

end Mem

end Cert.KernelIdeal.Hand
-- ==== Proof.Comm.lean ====
/- The steps that talk to other devices: the barrier, the copies, the waits and the credits. -/
module

public import proofs.«01_k».proof.Proof.Steps

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

/-- All slots ever given back. -/
def keys : Finset Key := Finset.univ ×ˢ (Finset.univ ×ˢ Finset.range 13)

/-- A copy number below thirteen names a slot given back. -/
theorem mem_keys (c : Dev nD) (k : Fin 4) {j : ℕ} (hj : j < 13) : (c, k, j) ∈ keys :=
  Finset.mem_product.mpr ⟨Finset.mem_univ _, Finset.mem_product.mpr ⟨Finset.mem_univ _, Finset.mem_range.mpr hj⟩⟩

section Comm

variable (X : Dev nD → Vec F S4096x256 .i8) (Wt : Dev nD → Vec F S256x2048 .i8)
variable (κ : Dev nD × Option Ok → ℕ) (ι : Key → ℕ)

/-- The levels of all cells. -/
def levs : sProp 𝕄 := levAts L lv

instance levs_persistent : BI.Persistent (levs (F := F)) := by unfold levs; infer_instance

/-- What every device knows: all cells and slots, that every cell has begun, and the order of the waits. -/
def recs : sProp 𝕄 :=
  iprop(bigSep Finset.univ (fun p => cellInv ER (rd X Wt) (κ p) (cellC p))
    ∗ bigSep keys (fun q => slotInv ES (ι q) q (Tg q.1 q.2.1 (q.2.2 + 2)))
    ∗ bigSep Finset.univ (fun p => reached ER (cellC p) 0)
    ∗ levs)

instance recs_persistent : BI.Persistent (recs X Wt κ ι) := by unfold recs; infer_instance

/-- A cell's record. -/
theorem recs_cell (p : Dev nD × Option Ok) : recs X Wt κ ι ⊢ cellInv ER (rd X Wt) (κ p) (cellC p) := by
  unfold recs
  refine BIBase.Entails.trans ?_ (bigSep_elim (Finset.mem_univ p) (Φ := fun p => cellInv ER (rd X Wt) (κ p) (cellC p)))
  iintro ⟨H, -, -, -⟩; iexact H
/-- A slot's record. -/
theorem recs_slot {q : Key} (hq : q ∈ keys) : recs X Wt κ ι ⊢ slotInv ES (ι q) q (Tg q.1 q.2.1 (q.2.2 + 2)) := by
  unfold recs
  refine BIBase.Entails.trans ?_ (bigSep_elim hq (Φ := fun q => slotInv ES (ι q) q (Tg q.1 q.2.1 (q.2.2 + 2))))
  iintro ⟨-, H, -, -⟩; iexact H
/-- Every cell has begun. -/
theorem recs_reached (p : Dev nD × Option Ok) : recs X Wt κ ι ⊢ reached ER (cellC p) 0 := by
  unfold recs
  refine BIBase.Entails.trans ?_ (bigSep_elim (Finset.mem_univ p) (Φ := fun p => reached ER (cellC p) 0))
  iintro ⟨-, -, H, -⟩; iexact H
/-- A device may wait on a cell of its own below all it owes. -/
theorem recs_mayWait (c : Dev nD) (sm : SemLoc sig) (i n : ℕ) (O : CellTallies nD τ sig ℕ) (hi : i < 16)
    (hlv : lv ((c : Thread nD τ), sm) i ≤ n) (hO : ∀ g u, 0 < O g u → g.1.2 = .tc ∧ u < 16 ∧ n < lv g u) :
    recs X Wt κ ι ⊢ MayWait (c : Thread nD τ) sm i O := by
  unfold recs levs
  iintro ⟨-, -, -, H⟩
  iapply (mayWait_of c sm i n O hi hlv hO); iexact H

/-- A send cell's owner before the wait for copy `j`. -/
def sendAt (c : Dev nD) (k : Fin 4) (j : ℕ) : sProp 𝕄 :=
  iprop(atPos ER (sendC c k (sl j)) (j / 3) ∅ 0 ∗ reached ER (sendC c k (sl j)) (j / 3))
/-- A receive cell's owner before the wait for copy `j`. -/
def recvAt (c : Dev nD) (k : Fin 4) (j : ℕ) : sProp 𝕄 :=
  iprop(atPos ER (recvC c k (sl (j + 1))) (j / 3) ∅ 0 ∗ reached ER (recvC c k (sl (j + 1))) (j / 3))
/-- What the device owes, the waits passed forgotten. -/
def owe (c : Dev nD) (a b : Fin 4 → ℕ) : sProp 𝕄 := iprop(∃ W, owes (c : Thread nD τ) (Ow a b c) W)
/-- The slots of stream `k` given back by `c` before copy `j`. -/
def freed (c : Dev nD) (k : Fin 4) (j : ℕ) : sProp 𝕄 := bigSep (Finset.range j) fun i => released ES (c, k, i) 1
/-- A credit cell's owner once `m` credits have been taken: the payments seen so far say what has been given back. -/
def credPos (c : Dev nD) (k : Fin 4) (m : ℕ) : sProp 𝕄 :=
  iprop(∃ T : Finset ℕ, ⌜T ⊆ Finset.range 13 ∧ m ≤ T.card⌝ ∗ atPos ER (credC c k) 0 T m
    ∗ bigSep T fun d => freed (outD k c) k (d + 1))

instance freed_persistent (c : Dev nD) (k : Fin 4) (j : ℕ) : BI.Persistent (freed (F := F) c k j) := by unfold freed; infer_instance

/-- The source slot is what the send cell's payment hands back. -/
theorem send_pay (c : Dev nD) (k : Fin 4) (s : Fin 3) (r : ℕ) (f : Buf (Elt F) ((slotM k s).view.loc (c : Thread nD τ))) :
    ((slotM k s).view.loc (c : Thread nD τ) ↦[(slotM k s).view.set]{fullShare} f : sProp 𝕄) ⊢ (rd X Wt).payload (sendC c k s) r 0 := by
  rw [payload_send]; unfold slotAny
  refine BIBase.Entails.trans (Entails.of_eq (slotPts_mem c k s f).symm) ?_
  iintro H; iexists f; iexact H

/-- The target slot, rewritten by the copy, is what the receive cell's payment hands over. -/
theorem recv_pay (c : Dev nD) (k : Fin 4) (j : ℕ) (f : Buf (Elt F) ((slotM k (sl j)).view.loc (c : Thread nD τ)))
    (g : Buf (Elt F) ((slotM k (sl (j + 1))).view.loc (outD k c : Thread nD τ)))
    (hf : (bM.access (slotR k (sl j))).read (Elt F) f = acc X Wt k j c) :
    ((slotM k (sl (j + 1))).view.loc (outD k c : Thread nD τ) ↦[(slotM k (sl (j + 1))).view.set]{fullShare}
        ((slotM k (sl (j + 1))).view.write (Elt F) g ((slotM k (sl j)).view.read (Elt F) f) Finset.univ) : sProp 𝕄)
      ⊢ (rd X Wt).payload (recvC (outD k c) k (sl (j + 1))) (j / 3) 0 := by
  rw [payload_recv, recv_round, inD_outD]; unfold slotIs
  refine BIBase.Entails.trans (Entails.of_eq (slotPts_mem (outD k c) k (sl (j + 1)) (copied k (sl j) (sl (j + 1)) f g)).symm) ?_
  iintro H
  iexists (copied k (sl j) (sl (j + 1)) f g)
  isplitr; · ipureintro; exact (copy_read k (sl j) (sl (j + 1)) f g).trans hf
  iexact H

/-- Start a copy. -/
theorem send_step (c : Dev nD) (k : Fin 4) (j : ℕ) (hj : j < 15) (a b : Fin 4 → ℕ) (ha : a k = j) (Q : PUnit → sProp 𝕄) :
    iprop(recs X Wt κ ι ∗ slotIs c k (sl j) (acc X Wt k j c) ∗ Tg (outD k c) k j ∗ owe c a b
        ∗ dutyTok ER (sendC c k (sl j)) (j / 3) 0 ∗ reached ER (sendC c k (sl j)) (j / 3)
        ∗ dutyTok ER (recvC (outD k c) k (sl (j + 1))) (j / 3) 0)
      ⊢ iprop(((cred (tallyAt (sendC c k (sl j)) 0 N) ∗ owe c (Function.update a k (j + 1)) b) -∗ Q ⟨⟩) -∗ WP c (pSend c k j) Q) := by
  unfold slotIs Tg slotAny owe pSend Prog.lift
  iintro ⟨#HR, ⟨%f, %hf, Hs0⟩, ⟨⟨%g, Hd0⟩, #Hrd⟩, ⟨%W, HO⟩, Ht1, #Hr1, Ht2⟩ Hk
  ihave Hs := (Entails.of_eq (slotPts_mem c k (sl j) f)) $$ Hs0
  ihave Hd := (Entails.of_eq (slotPts_mem (outD k c) k (sl (j + 1)) g)) $$ Hd0
  have hr : j / 3 < 5 := by omega
  have hO : Ow a b c = Ow (Function.update a k (j + 1)) b c + tallyAt (recvC (outD k c) k (sl (j + 1))) j N := by
    rw [Ow_send a b c k (by omega), ha]
  iapply (Rounds.wp_send_pointsTo 𝒱₀ ER (rd X Wt) (c : Thread nD τ) none (κ₁ := κ (c, some (.inl (k, sl j))))
    (κ₂ := κ (outD k c, some (.inr (.inl (k, sl (j + 1))))))
    (r₁ := j / 3) (r₂ := j / 3) (d₁ := 0) (d₂ := 0) (fd := g)
    (by rw [duties_send X Wt c k (sl j) hr]; exact Finset.mem_singleton_self _)
    (by rw [duties_recv X Wt (outD k c) k (sl (j + 1)) hr]; exact Finset.mem_singleton_self _)
    j 0 N (copy_amount k (sl (j + 1)) _) (amount_send X Wt c k (sl j) _ _) (amount_recv X Wt (outD k c) k (sl (j + 1)) _ _)
    (Ow (Function.update a k (j + 1)) b c) hO (W := W)
    (send_pay X Wt c k (sl j) (j / 3) f) (recv_pay X Wt c k j f g hf)) $$ [Hs Hd HO Ht1 Ht2]
  · isplitr; · iapply (recs_cell X Wt κ ι (c, some (.inl (k, sl j)))); iexact HR
    isplitr; · iapply (recs_cell X Wt κ ι (outD k c, some (.inr (.inl (k, sl (j + 1)))))); iexact HR
    isplitl [Hs]; · iexact Hs
    isplitl [Hd]; · iexact Hd
    isplitl [HO]; · iexact HO
    isplitl [Ht1]; · iexact Ht1
    isplitr; · iexact Hr1
    isplitl [Ht2]; · iexact Ht2
    iexact Hrd
  iintro ⟨Hc, HO⟩
  rw [wp_ret]; imodintro
  iapply Hk
  isplitl [Hc]; · iexact Hc
  iexists W; iexact HO

/-- Wait for a copy to arrive. -/
theorem wait_recv_step (c : Dev nD) (k : Fin 4) (j : ℕ) (hj : j < 15) (a b : Fin 4 → ℕ) (ha : ∀ k, j < a k) (hb : ∀ k, j ≤ b k)
    (Q : PUnit → sProp 𝕄) :
    iprop(recs X Wt κ ι ∗ cred (tallyAt (recvC c k (sl (j + 1))) j N) ∗ owe c a b ∗ recvAt c k j)
      ⊢ iprop(((owe c a b ∗ recvAt c k (j + 3) ∗ slotIs c k (sl (j + 1)) (acc X Wt k j (inD k c))) -∗ Q ⟨⟩) -∗ WP c (pWaitRecv k j) Q) := by
  unfold owe recvAt pWaitRecv Prog.lift
  iintro ⟨#HR, Hc, ⟨%W, HO⟩, Hat, -⟩ Hk
  have hr : j / 3 < 5 := by omega
  iapply (Rounds.wp_wait_rest_token 𝒱₀ ER (rd X Wt) (c : Thread nD τ) none (κ := κ (c, some (.inr (.inl (k, sl (j + 1))))))
    (wpE_waitDma2_eq 𝒱₀ (c : Thread nD τ) none Set.univ) (Set.mem_univ _) j (O := Ow a b c) (W := W) (R := j / 3) (m := 0) (T := ∅)
    (by rw [Nat.zero_add, credit_eq k (sl (j + 1)), expect_recv X Wt c k (sl (j + 1)) hr])) $$ [Hc HO Hat]
  · isplitr; · iapply (recs_cell X Wt κ ι (c, some (.inr (.inl (k, sl (j + 1)))))); iexact HR
    isplitl [Hc]; · iexact Hc
    isplitl [HO]; · iexact HO
    isplitr
    · iapply (recs_mayWait X Wt κ ι c (.dma (recvQ k (sl (j + 1)))) j (2 * j + 2) (Ow a b c) (by omega) (le_of_eq (lv_recv c k _ j))
        (Ow_above (fun k => by have := ha k; omega) (fun k => by have := hb k; omega)))
      iexact HR
    iexact Hat
  iintro ⟨HO, Hat, Hr, Hpay⟩
  rw [wp_ret]; imodintro
  iapply Hk
  isplitl [HO]; · iexists _; iexact HO
  have e1 : sl (j + 3 + 1) = sl (j + 1) := by rw [show j + 3 + 1 = j + 1 + 3 by omega, sl_add3]
  have e2 : (j + 3) / 3 = j / 3 + 1 := by omega
  rw [e1, e2]
  isplitl [Hat Hr]; · isplitl [Hat] <;> iassumption
  iapply (Entails.of_eq (show bigSep ((rd X Wt).duties (recvC c k (sl (j + 1))) (j / 3) \ ∅) (fun d => (rd X Wt).payload (recvC c k (sl (j + 1))) (j / 3) d)
      = slotIs c k (sl (j + 1)) (acc X Wt k j (inD k c)) from by
    rw [Finset.sdiff_empty, duties_recv X Wt c k (sl (j + 1)) hr, bigSep_singleton, payload_recv, recv_round]))
  iexact Hpay

/-- Wait for a copy to have left. -/
theorem wait_send_step (c : Dev nD) (k : Fin 4) (j : ℕ) (hj : j < 15) (a b : Fin 4 → ℕ) (Q : PUnit → sProp 𝕄) :
    iprop(recs X Wt κ ι ∗ cred (tallyAt (sendC c k (sl j)) 0 N) ∗ owe c a b ∗ sendAt c k j)
      ⊢ iprop(((owe c a b ∗ sendAt c k (j + 3) ∗ slotAny c k (sl j)) -∗ Q ⟨⟩) -∗ WP c (pWaitSend k j) Q) := by
  unfold owe sendAt pWaitSend Prog.lift
  iintro ⟨#HR, Hc, ⟨%W, HO⟩, Hat, -⟩ Hk
  have hr : j / 3 < 5 := by omega
  iapply (Rounds.wp_wait_rest_token 𝒱₀ ER (rd X Wt) (c : Thread nD τ) none (κ := κ (c, some (.inl (k, sl j))))
    (wpE_waitDma2_eq 𝒱₀ (c : Thread nD τ) none Set.univ) (Set.mem_univ _) 0 (O := Ow a b c) (W := W) (R := j / 3) (m := 0) (T := ∅)
    (by rw [Nat.zero_add, credit_eq k (sl j), expect_send X Wt c k (sl j) hr])) $$ [Hc HO Hat]
  · isplitr; · iapply (recs_cell X Wt κ ι (c, some (.inl (k, sl j)))); iexact HR
    isplitl [Hc]; · iexact Hc
    isplitl [HO]; · iexact HO
    isplitr
    · iapply (recs_mayWait X Wt κ ι c (.dma (sendQ k (sl j))) 0 0 (Ow a b c) (by omega) (le_of_eq (lv_send c k _ 0))
        (Ow_above (fun k => by omega) (fun k => by omega)))
      iexact HR
    iexact Hat
  iintro ⟨HO, Hat, Hr, Hpay⟩
  rw [wp_ret]; imodintro
  iapply Hk
  isplitl [HO]; · iexists _; iexact HO
  have e2 : (j + 3) / 3 = j / 3 + 1 := by omega
  rw [sl_add3, e2]
  isplitl [Hat Hr]; · isplitl [Hat] <;> iassumption
  iapply (Entails.of_eq (show bigSep ((rd X Wt).duties (sendC c k (sl j)) (j / 3) \ ∅) (fun d => (rd X Wt).payload (sendC c k (sl j)) (j / 3) d)
      = slotAny c k (sl j) from by
    rw [Finset.sdiff_empty, duties_send X Wt c k (sl j) hr, bigSep_singleton, payload_send]))
  iexact Hpay

/-- Slots held twice clash. -/
theorem Tg_clash (c : Dev nD) (k : Fin 4) (j : ℕ) : iprop(Tg c k j ∗ Tg c k j) ⊢ (False : sProp 𝕄) := by
  have hne : ((bM.access (slotR k (sl (j + 1)))).set).Nonempty :=
    ⟨_, View.emb_mem_set (bM.access (slotR k (sl (j + 1)))) ((fun a => ⟨0, by revert a; decide⟩ : S1x1x256x512.Idx))⟩
  refine BIBase.Entails.trans ?_ (slot_slot_false (ℓ := (bM.access (slotR k (sl (j + 1)))).loc (c : Thread nD τ)) (I := (bM.access (slotR k (sl (j + 1)))).set) hne)
  unfold Tg slotAny slot
  simp only [slotPts_acc]
  iintro ⟨⟨H1, -⟩, H2, -⟩
  isplitl [H1] <;> iassumption

/-- Wait for a credit, and take the slot it announces. -/
theorem credit_step (c : Dev nD) (k : Fin 4) (j : ℕ) (hj : j < 13) (a b : Fin 4 → ℕ) (ha : ∀ k, j < a k) (hb : ∀ k, j < b k)
    (Q : PUnit → sProp 𝕄) :
    iprop(recs X Wt κ ι ∗ cred (tallyAt (credC c k) j 1) ∗ owe c a b ∗ credPos c k j ∗ writeTok ES (outD k c, k, j) 1)
      ⊢ iprop(((owe c a b ∗ credPos c k (j + 1) ∗ Tg (outD k c) k (j + 2)) -∗ Q ⟨⟩) -∗ WP c (semWaitWord (credQ k) 1#32) Q) := by
  unfold owe credPos semWaitWord
  iintro ⟨#HR, Hc, ⟨%W, HO⟩, ⟨%T, %hT, Hat, #HT⟩, Hw⟩ Hk
  iapply (Rounds.wp_wait 𝒱₀ ER (rd X Wt) (c : Thread nD τ) none (κ := κ (c, some (.inr (.inr k))))
    (wpE_semWait_eq 𝒱₀ (c : Thread nD τ) none Set.univ) (Set.mem_univ _) {((.reg (credQ k) : SemLoc sig), j)}
    (cr := Finsupp.single j 1) (O := Ow a b c) (W := W) (R := 0) (m := j) (T := T) (Util.total_single j 1)
    (image_single_subset (.reg (credQ k)) j 1)) $$ [Hc HO Hat]
  · isplitr; · iapply (recs_cell X Wt κ ι (c, some (.inr (.inr k)))); iexact HR
    isplitl [Hc]; · iexact Hc
    isplitl [HO]; · iexact HO
    isplitr
    · iapply (recs_mayWait X Wt κ ι c (.reg (credQ k)) j (2 * j + 3) (Ow a b c) (by omega) (le_of_eq (lv_cred c k j))
        (Ow_above (fun k => by have := ha k; omega) (fun k => by have := hb k; omega)))
      iexact HR
    iexact Hat
  iintro %S ⟨%hS, HO, Hat, Hpay⟩
  obtain ⟨hTS, hSd, hcard⟩ := hS
  rw [duties_cred, Finset.card_sdiff_of_subset (by rw [← duties_cred X Wt c k]; exact hSd), expect_cred, Finset.card_range] at hcard
  rw [duties_cred] at hSd
  have hle := Finset.card_le_card hSd
  rw [Finset.card_range] at hle
  have hcS : j + 1 ≤ S.card := by omega
  ihave #HS : iprop(bigSep S fun d => freed (outD k c) k (d + 1)) $$ [Hpay]
  · iapply (Entails.of_eq (show iprop(bigSep T (fun d => freed (outD k c) k (d + 1)) ∗ bigSep (S \ T) (fun d => freed (outD k c) k (d + 1)))
        = (bigSep S fun d => freed (F := F) (outD k c) k (d + 1)) from (bigSep_sdiff_split hTS).symm))
    isplitr; · iexact HT
    iapply (Entails.of_eq (bigSep_congr fun d _ => payload_cred X Wt c k 0 d))
    iexact Hpay
  obtain ⟨d, hd, hjd⟩ : ∃ d ∈ S, j ≤ d := by
    by_contra hn
    push Not at hn
    have := Finset.card_le_card (show S ⊆ Finset.range j from fun d hd => Finset.mem_range.mpr (hn d hd))
    rw [Finset.card_range] at this; omega
  ihave #Hrel : iprop(released ES (outD k c, k, j) 1) $$ []
  · iapply (show (bigSep S fun d => freed (F := F) (outD k c) k (d + 1)) ⊢ released ES (outD k c, k, j) 1 from
      BIBase.Entails.trans (bigSep_elim hd) (by unfold freed; exact bigSep_elim (Finset.mem_range.mpr (by omega))))
    iexact HS
  ihave #Hsl := (recs_slot X Wt κ ι (mem_keys (outD k c) k hj)) $$ HR
  imod (slot_take ES (Set.mem_univ (ι (outD k c, k, j))) 1) $$ [Hw] with HTg
  · isplitr; · iexact Hsl
    isplitr; · iexact Hrel
    iexact Hw
  rw [wp_ret]; imodintro
  iapply Hk
  isplitl [HO]; · iexists _; iexact HO
  isplitl [Hat]
  · iexists S
    isplitr; · ipureintro; exact ⟨hSd, hcS⟩
    isplitl [Hat]; · iexact Hat
    iexact HS
  iexact HTg

/-- Give a slot back and tell the device before. -/
theorem give_step (c : Dev nD) (k : Fin 4) (j : ℕ) (hj : j < 13) (a b : Fin 4 → ℕ) (hb : b k = j) (Q : PUnit → sProp 𝕄) :
    iprop(recs X Wt κ ι ∗ owe c a b ∗ Tg c k (j + 2) ∗ readerAt ES (c, k, j) 0 ∗ freed c k j
        ∗ dutyTok ER (credC (inD k c) k) 0 j)
      ⊢ iprop(((owe c a (Function.update b k (j + 1)) ∗ freed c k (j + 1)) -∗ Q ⟨⟩)
        -∗ WP c (semSignalWord (inD k c) (credQ k) 1#32) Q) := by
  unfold owe semSignalWord
  iintro ⟨#HR, ⟨%W, HO⟩, HTg, Hrd, #Hfr, Ht⟩ Hk
  have hO : Ow a b c = Ow a (Function.update b k (j + 1)) c + tallyAt (credC (inD k c) k) j 1 := by
    rw [Ow_credit a b c k (by omega), hb]
  ihave #Hsl := (recs_slot X Wt κ ι (mem_keys c k hj)) $$ HR
  imod (slot_release ES (Set.mem_univ (ι (c, k, j))) (Tg_clash c k (j + 2)) 0) $$ [HTg Hrd] with ⟨-, #Hrel⟩
  · isplitr; · iexact Hsl
    isplitl [Hrd]; · iexact Hrd
    iexact HTg
  ihave #Hfr' : iprop(freed c k (j + 1)) $$ []
  · unfold freed
    iapply (Entails.of_eq (show iprop(released ES (c, k, j) 1 ∗ bigSep (Finset.range j) (fun i => released ES (c, k, i) 1))
        = (bigSep (Finset.range (j + 1)) fun i => released ES (c, k, i) 1 : sProp 𝕄) from by
      rw [Finset.range_add_one, bigSep_insert Finset.notMem_range_self]; rfl))
    isplitr; · iexact Hrel
    iexact Hfr
  iapply (Rounds.wp_signal 𝒱₀ ER (rd X Wt) (c : Thread nD τ) none (dst := (inD k c : Thread nD τ)) (κ := κ (inD k c, some (.inr (.inr k))))
    (d := j) (by rw [duties_cred]; exact Finset.mem_range.mpr hj) ((amount_cred X Wt (inD k c) k 0 j).trans (by decide)) j
    (Ow a (Function.update b k (j + 1)) c) hO) $$ [HO Ht]
  · isplitr; · iapply (recs_cell X Wt κ ι (inD k c, some (.inr (.inr k)))); iexact HR
    isplitl [HO]; · iexact HO
    isplitl [Ht]; · iexact Ht
    isplitr
    · iapply (Entails.of_eq (show freed c k (j + 1) = (rd X Wt).payload (credC (inD k c) k) 0 j from by
        rw [payload_cred, outD_inD]; rfl))
      iexact Hfr'
    iapply (recs_reached X Wt κ ι (inD k c, some (.inr (.inr k)))); iexact HR
  iintro HO
  rw [wp_ret]; imodintro
  iapply Hk
  isplitl [HO]; · iexists W; iexact HO
  iexact Hfr'

/-- The two slots of a stream free at the start. -/
def Tg2 (c : Dev nD) (k : Fin 4) : sProp 𝕄 := iprop(Tg c k 0 ∗ Tg c k 1)

/-- The barrier: every device hands its free slots to those that write into them, and gets theirs. -/
theorem bar_step (c : Dev nD) (Q : PUnit → sProp 𝕄) :
    iprop(recs X Wt κ ι ∗ (∃ W, owes (c : Thread nD τ) (O₀ c) W) ∗ dutyTok ER (barC (lft c)) 0 0 ∗ dutyTok ER (barC (rgt c)) 0 1
        ∗ Tg2 c 0 ∗ Tg2 c 1 ∗ Tg2 c 2 ∗ Tg2 c 3 ∗ cred (tallyAt (barC c) 0 2) ∗ atPos ER (barC c) 0 ∅ 0)
      ⊢ iprop(((owe c (fun _ => 0) (fun _ => 0) ∗ atPos ER (barC c) 1 ∅ 0
          ∗ Tg2 (outD 0 c) 0 ∗ Tg2 (outD 1 c) 1 ∗ Tg2 (outD 2 c) 2 ∗ Tg2 (outD 3 c) 3) -∗ Q ⟨⟩) -∗ WP c (pBar c) Q) := by
  unfold owe pBar semSignalWord semWaitWord O₀
  simp only [Prog.bind_op, Prog.bind_ret]
  iintro ⟨#HR, ⟨%W, HO⟩, HtL, HtR, H0, H1, H2, H3, Hc, Hat⟩ Hk
  iapply (Rounds.wp_signal 𝒱₀ ER (rd X Wt) (c : Thread nD τ) none (dst := (lft c : Thread nD τ)) (κ := κ (lft c, none))
    (d := 0) (by rw [duties_bar]; decide) ((amount_bar X Wt (lft c) 0 0).trans (by decide)) 0 (O₁ c) rfl) $$ [HO HtL H0 H1]
  · isplitr; · iapply (recs_cell X Wt κ ι (lft c, none)); iexact HR
    isplitl [HO]; · iexact HO
    isplitl [HtL]; · iexact HtL
    isplitl [H0 H1]
    · iapply (Entails.of_eq (show iprop(Tg2 c 0 ∗ Tg2 c 1) = (rd X Wt).payload (barC (lft c)) 0 0 from by
        rw [payload_bar]; show _ = iprop((Tg (rgt (lft c)) 0 0 ∗ Tg (rgt (lft c)) 0 1) ∗ (Tg (rgt (lft c)) 1 0 ∗ Tg (rgt (lft c)) 1 1))
        rw [rgt_lft]; rfl))
      isplitl [H0] <;> iassumption
    iapply (recs_reached X Wt κ ι (lft c, none)); iexact HR
  iintro HO
  unfold O₁
  iapply (Rounds.wp_signal 𝒱₀ ER (rd X Wt) (c : Thread nD τ) none (dst := (rgt c : Thread nD τ)) (κ := κ (rgt c, none))
    (d := 1) (by rw [duties_bar]; decide) ((amount_bar X Wt (rgt c) 0 1).trans (by decide)) 0 (Ow (fun _ => 0) (fun _ => 0) c) rfl) $$ [HO HtR H2 H3]
  · isplitr; · iapply (recs_cell X Wt κ ι (rgt c, none)); iexact HR
    isplitl [HO]; · iexact HO
    isplitl [HtR]; · iexact HtR
    isplitl [H2 H3]
    · iapply (Entails.of_eq (show iprop(Tg2 c 2 ∗ Tg2 c 3) = (rd X Wt).payload (barC (rgt c)) 0 1 from by
        rw [payload_bar]; show _ = iprop((Tg (lft (rgt c)) 2 0 ∗ Tg (lft (rgt c)) 2 1) ∗ (Tg (lft (rgt c)) 3 0 ∗ Tg (lft (rgt c)) 3 1))
        rw [lft_rgt]; rfl))
      isplitl [H2] <;> iassumption
    iapply (recs_reached X Wt κ ι (rgt c, none)); iexact HR
  iintro HO
  iapply (Rounds.wp_wait_rest_token 𝒱₀ ER (rd X Wt) (c : Thread nD τ) none (κ := κ (c, none))
    (wpE_semWait_eq 𝒱₀ (c : Thread nD τ) none Set.univ) (Set.mem_univ _) 0 (O := Ow (fun _ => 0) (fun _ => 0) c) (W := W) (R := 0) (m := 0) (T := ∅)
    (by rw [expect_bar]; decide)) $$ [Hc HO Hat]
  · isplitr; · iapply (recs_cell X Wt κ ι (c, none)); iexact HR
    isplitl [Hc]; · iexact Hc
    isplitl [HO]; · iexact HO
    isplitr
    · iapply (recs_mayWait X Wt κ ι c (.reg barQ) 0 1 (Ow (fun _ => 0) (fun _ => 0) c) (by omega) (le_of_eq (lv_bar c 0))
        (Ow_above (fun k => by omega) (fun k => by omega)))
      iexact HR
    iexact Hat
  iintro ⟨HO, Hat, -, Hpay⟩
  ihave Hp := (Entails.of_eq (show bigSep ((rd X Wt).duties (barC c) 0 \ ∅) (fun d => (rd X Wt).payload (barC c) 0 d)
      = iprop((Tg2 (outD 0 c) 0 ∗ Tg2 (outD 1 c) 1) ∗ (Tg2 (outD 2 c) 2 ∗ Tg2 (outD 3 c) 3)) from by
    rw [Finset.sdiff_empty, duties_bar, bigSep_insert (by decide), bigSep_singleton, payload_bar, payload_bar]; rfl)) $$ Hpay
  icases Hp with ⟨⟨H0, H1⟩, H2, H3⟩
  rw [wp_ret]; imodintro
  iapply Hk
  isplitl [HO]; · iexists _; iexact HO
  isplitl [Hat]; · iexact Hat
  isplitl [H0]; · iexact H0
  isplitl [H1]; · iexact H1
  isplitl [H2]; · iexact H2
  iexact H3

end Comm

end Cert.KernelIdeal.Hand
-- ==== Proof.Streams.lean ====
/- A stream from hop to hop, and the four streams together. -/
module

public import proofs.«01_k».proof.Proof.Comm

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

section Streams

variable (X : Dev nD → Vec F S4096x256 .i8) (Wt : Dev nD → Vec F S256x2048 .i8)
variable (κ : Dev nD × Option Ok → ℕ) (ι : Key → ℕ)

/-! ### What a stream holds -/

/-- The arrivals still to come. -/
def Rcv (c : Dev nD) (k : Fin 4) (h : ℕ) : sProp 𝕄 := bigSep (Finset.Ico h 15) fun j => cred (tallyAt (recvC c k (sl (j + 1))) j N)
/-- The credits still to come, and the right to take the slots they announce. -/
def Crd (c : Dev nD) (k : Fin 4) (h : ℕ) : sProp 𝕄 :=
  bigSep (Finset.Ico h 13) fun j => iprop(cred (tallyAt (credC c k) j 1) ∗ writeTok ES (outD k c, k, j) 1)
/-- The duties of the copies still to start. -/
def Dut (c : Dev nD) (k : Fin 4) (h : ℕ) : sProp 𝕄 :=
  bigSep (Finset.Ico h 15) fun j => iprop(dutyTok ER (sendC c k (sl j)) (j / 3) 0 ∗ dutyTok ER (recvC (outD k c) k (sl (j + 1))) (j / 3) 0)
/-- The slots still to be given back. -/
def Giv (c : Dev nD) (k : Fin 4) (h : ℕ) : sProp 𝕄 :=
  bigSep (Finset.Ico h 13) fun j => iprop(readerAt ES (c, k, j) 0 ∗ dutyTok ER (credC (inD k c) k) 0 j)
/-- The positions at the three send cells. -/
def Sat (c : Dev nD) (k : Fin 4) (h : ℕ) : sProp 𝕄 := iprop(sendAt c k h ∗ sendAt c k (h + 1) ∗ sendAt c k (h + 2))
/-- The positions at the three receive cells. -/
def Rat (c : Dev nD) (k : Fin 4) (h : ℕ) : sProp 𝕄 := iprop(recvAt c k h ∗ recvAt c k (h + 1) ∗ recvAt c k (h + 2))
/-- A copy on its way. -/
def Fly (c : Dev nD) (k : Fin 4) (h : ℕ) : sProp 𝕄 := cred (tallyAt (sendC c k (sl h)) 0 N)
/-- What is at hand only at the first hop, and after the last but one. -/
def Ext (c : Dev nD) (k : Fin 4) (h : ℕ) : sProp 𝕄 :=
  if h = 0 then Tg (outD k c) k 1 else if h = 14 then slotAny c k (sl 13) else iprop(emp)

/-- A stream before its first copy. -/
def Pre (c : Dev nD) (k : Fin 4) : sProp 𝕄 :=
  iprop(slotAny c k (sl 0) ∗ Tg2 (outD k c) k ∗ Rcv c k 0 ∗ Crd c k 0 ∗ Dut c k 0 ∗ Giv c k 0 ∗ freed c k 0 ∗ credPos c k 0
    ∗ Sat c k 0 ∗ Rat c k 0)
/-- A stream before hop `h`. -/
def St (c : Dev nD) (k : Fin 4) (h : ℕ) : sProp 𝕄 :=
  iprop(Rcv c k h ∗ Crd c k (h - 1) ∗ Dut c k (h + 1) ∗ Giv c k h ∗ freed c k (min h 13) ∗ credPos c k (h - 1)
    ∗ Sat c k h ∗ Rat c k h ∗ Fly c k h ∗ Ext c k h)
/-- A stream inside hop `h`, its next copy started. -/
def Mid (c : Dev nD) (k : Fin 4) (h : ℕ) : sProp 𝕄 :=
  iprop(Rcv c k (h + 1) ∗ Crd c k h ∗ Dut c k (h + 2) ∗ Giv c k h ∗ freed c k (min h 13) ∗ credPos c k h
    ∗ Sat c k h ∗ Rat c k (h + 1) ∗ Fly c k h ∗ Fly c k (h + 1))
/-- A stream whose last copy has arrived. -/
def Lst (c : Dev nD) (k : Fin 4) : sProp 𝕄 :=
  iprop(credPos c k 13 ∗ Sat c k 14 ∗ Rat c k 15 ∗ Fly c k 14 ∗ slotAny c k (sl 13) ∗ slotAny c k (sl 15))
/-- A stream at the end. -/
def Fin' (c : Dev nD) (k : Fin 4) : sProp 𝕄 :=
  iprop(credPos c k 13 ∗ Sat c k 15 ∗ Rat c k 15 ∗ slotAny c k (sl 13) ∗ slotAny c k (sl 14) ∗ slotAny c k (sl 15))

omit [FloatOps F] in
/-- A row of resources, its first taken off. -/
theorem row_pop {a n : ℕ} (h : a < n) (Φ : ℕ → sProp 𝕄) : bigSep (Finset.Ico a n) Φ = iprop(Φ a ∗ bigSep (Finset.Ico (a + 1) n) Φ) := by
  rw [Ico_pop h, bigSep_insert (Ico_not_mem a n)]; rfl

omit [FloatOps F] in
/-- The next arrival. -/
theorem Rcv_pop (c : Dev nD) (k : Fin 4) {h : ℕ} (hh : h < 15) :
    Rcv (F := F) c k h = iprop(cred (tallyAt (recvC c k (sl (h + 1))) h N) ∗ Rcv c k (h + 1)) := row_pop hh _
omit [FloatOps F] in
/-- The next credit. -/
theorem Crd_pop (c : Dev nD) (k : Fin 4) {h : ℕ} (hh : h < 13) :
    Crd (F := F) c k h = iprop((cred (tallyAt (credC c k) h 1) ∗ writeTok ES (outD k c, k, h) 1) ∗ Crd c k (h + 1)) := row_pop hh _
omit [FloatOps F] in
/-- The next copy's duties. -/
theorem Dut_pop (c : Dev nD) (k : Fin 4) {h : ℕ} (hh : h < 15) :
    Dut (F := F) c k h = iprop((dutyTok ER (sendC c k (sl h)) (h / 3) 0 ∗ dutyTok ER (recvC (outD k c) k (sl (h + 1))) (h / 3) 0) ∗ Dut c k (h + 1)) :=
  row_pop hh _
omit [FloatOps F] in
/-- The next slot to give back. -/
theorem Giv_pop (c : Dev nD) (k : Fin 4) {h : ℕ} (hh : h < 13) :
    Giv (F := F) c k h = iprop((readerAt ES (c, k, h) 0 ∗ dutyTok ER (credC (inD k c) k) 0 h) ∗ Giv c k (h + 1)) := row_pop hh _

/-- Past the credits nothing more is owed. -/
theorem Ow_skip (a b : Fin 4 → ℕ) (c : Dev nD) (k : Fin 4) (h : 13 ≤ b k) : Ow a (Function.update b k (b k + 1)) c = Ow a b c := by
  unfold Ow
  refine Finset.sum_congr rfl fun k' _ => ?_
  by_cases hk : k' = k
  · subst hk
    rw [Function.update_self]; unfold credOwe
    rw [Finset.Ico_eq_empty (by omega), Finset.Ico_eq_empty (by omega)]
  · rw [Function.update_of_ne hk]

/-! ### The steps of one stream -/

/-- The memory shared by the streams during hop `h`. -/
def tmpIs (c : Dev nD) (h : ℕ) : sProp 𝕄 := ((c : Thread nD τ).loc cc0_scratch2) ↦{fullShare} tmpF X Wt c h

/-- One hop of one stream. -/
theorem hop_step (c : Dev nD) (k : Fin 4) (h : ℕ) (hh : h < 14) (a b : Fin 4 → ℕ) (ha : ∀ k, h < a k) (hb : ∀ k, h ≤ b k) (hak : a k = h + 1)
    (Q : PUnit → sProp 𝕄) :
    iprop(recs X Wt κ ι ∗ tmpIs X Wt c h ∗ owe c a b ∗ St c k h)
      ⊢ iprop(((tmpIs X Wt c h ∗ owe c (Function.update a k (h + 2)) b ∗ Mid c k h) -∗ Q ⟨⟩) -∗ WP c (pHop c h k) Q) := by
  unfold St Mid Rat
  rw [Rcv_pop c k (show h < 15 by omega), Dut_pop c k (show h + 1 < 15 by omega)]
  iintro ⟨#HR, Ht, HO, ⟨Hc, HRc⟩, HC, ⟨⟨Hd1, Hd2⟩, HD⟩, HG, Hfr, Hcp, HS, ⟨Hr0, Hr1, Hr2⟩, HF, HE⟩ Hk
  unfold pHop
  simp only [wp_bind]
  iapply (wait_recv_step X Wt κ ι c k h (by omega) a b ha hb _) $$ [Hc HO Hr0]
  · isplitr; · iexact HR
    isplitl [Hc]; · iexact Hc
    isplitl [HO] <;> iassumption
  iintro ⟨HO, Hr3, Hsl⟩
  iapply (get_step c k (sl (h + 1)) (acc X Wt k h (inD k c)) _) $$ Hsl
  iintro Hsl
  unfold tmpIs
  iapply (tmp_step X Wt c k h _) $$ Ht
  iintro Ht
  iapply (put_step c k (sl (h + 1)) (acc X Wt k (h + 1) c) _) $$ [Hsl]
  · unfold slotIs slotAny
    icases Hsl with ⟨%f, -, Hs⟩
    iexists f; iexact Hs
  iintro Hsl
  -- the credit
  have hcred : iprop(recs X Wt κ ι ∗ owe c a b ∗ Crd c k (h - 1) ∗ credPos c k (h - 1) ∗ Ext c k h)
      ⊢ iprop(((owe c a b ∗ Crd c k h ∗ credPos c k h ∗ Tg (outD k c) k (h + 1)) -∗ WP c (pSend c k (h + 1)) Q) -∗ WP c (pCredit k h) (fun _ => WP c (pSend c k (h + 1)) Q)) := by
    unfold pCredit Ext
    rcases Nat.eq_zero_or_pos h with rfl | hpos
    · simp only [if_true, Prog.pure_eq_ret]
      unfold WP
      iintro ⟨#HR, HO, HC, Hcp, HE⟩ Hk
      rw [wp_ret]; imodintro
      iapply Hk
      isplitl [HO]; · iexact HO
      isplitl [HC]; · iexact HC
      isplitl [Hcp] <;> iassumption
    · obtain ⟨j, rfl⟩ : ∃ j, h = j + 1 := ⟨h - 1, by omega⟩
      rw [if_neg (by omega), if_neg (by omega), if_neg (by omega)]
      rw [Nat.add_sub_cancel, Crd_pop c k (show j < 13 by omega)]
      iintro ⟨#HR, HO, ⟨⟨Hc, Hw⟩, HC⟩, Hcp, -⟩ Hk
      iapply (credit_step X Wt κ ι c k j (by omega) a b (fun k => by have := ha k; omega) (fun k => by have := hb k; omega) _) $$ [HO Hc Hw Hcp]
      · isplitr; · iexact HR
        isplitl [Hc]; · iexact Hc
        isplitl [HO]; · iexact HO
        isplitl [Hcp] <;> iassumption
      iintro ⟨HO, Hcp, HT⟩
      iapply Hk
      isplitl [HO]; · iexact HO
      isplitl [HC]; · iexact HC
      isplitl [Hcp] <;> iassumption
  iapply hcred $$ [HO HC Hcp HE]
  · isplitr; · iexact HR
    isplitl [HO]; · iexact HO
    isplitl [HC]; · iexact HC
    isplitl [Hcp] <;> iassumption
  iintro ⟨HO, HC, Hcp, HT⟩
  unfold Sat
  icases HS with ⟨Hs0, Hs1, Hs2⟩
  ihave #Hs1r : iprop(reached ER (sendC c k (sl (h + 1))) ((h + 1) / 3)) $$ [Hs1]
  · unfold sendAt; icases Hs1 with ⟨-, #H⟩; iexact H
  iapply (send_step X Wt κ ι c k (h + 1) (by omega) a b hak _) $$ [HO Hsl HT Hd1 Hd2]
  · isplitr; · iexact HR
    isplitl [Hsl]; · iexact Hsl
    isplitl [HT]; · iexact HT
    isplitl [HO]; · iexact HO
    isplitl [Hd1]; · iexact Hd1
    isplitr; · iexact Hs1r
    iexact Hd2
  iintro ⟨HF1, HO⟩
  iapply Hk
  isplitl [Ht]; · iexact Ht
  isplitl [HO]; · iexact HO
  isplitl [HRc]; · iexact HRc
  isplitl [HC]; · iexact HC
  isplitl [HD]; · iexact HD
  isplitl [HG]; · iexact HG
  isplitl [Hfr]; · iexact Hfr
  isplitl [Hcp]; · iexact Hcp
  isplitl [Hs0 Hs1 Hs2]
  · isplitl [Hs0]; · iexact Hs0
    isplitl [Hs1] <;> iassumption
  isplitl [Hr1 Hr2 Hr3]
  · isplitl [Hr1]; · iexact Hr1
    isplitl [Hr2] <;> iassumption
  isplitl [HF]; · iexact HF
  unfold Fly; iexact HF1

/-- The end of one hop of one stream. -/
theorem done_step (c : Dev nD) (k : Fin 4) (h : ℕ) (hh : h < 14) (a b : Fin 4 → ℕ) (hbk : b k = h) (Q : PUnit → sProp 𝕄) :
    iprop(recs X Wt κ ι ∗ owe c a b ∗ Mid c k h)
      ⊢ iprop(((owe c a (Function.update b k (h + 1)) ∗ St c k (h + 1)) -∗ Q ⟨⟩) -∗ WP c (pDone c h k) Q) := by
  unfold Mid St Sat Rat
  rw [show h + 1 - 1 = h from rfl]
  iintro ⟨#HR, HO, HRc, HC, HD, HG, Hfr, Hcp, ⟨Hs0, Hs1, Hs2⟩, ⟨Hr1, Hr2, Hr3⟩, HF, HF1⟩ Hk
  unfold pDone
  simp only [wp_bind]
  iapply (wait_send_step X Wt κ ι c k h (by omega) a b _) $$ [HF HO Hs0]
  · isplitr; · iexact HR
    isplitl [HF]; · unfold Fly; iexact HF
    isplitl [HO] <;> iassumption
  iintro ⟨HO, Hs3, Hsl⟩
  by_cases h13 : h < 13
  · rw [if_pos h13]
    ihave HG' := (Entails.of_eq (Giv_pop c k h13)) $$ HG
    ihave Hfr' := (Entails.of_eq (congrArg (freed (F := F) c k) (show min h 13 = h by omega))) $$ Hfr
    icases HG' with ⟨⟨Hrd, Hdt⟩, HG⟩
    ihave #Hr2r : iprop(reached ER (recvC c k (sl (h + 2 + 1))) ((h + 2) / 3)) $$ [Hr2]
    · unfold recvAt; icases Hr2 with ⟨-, #H⟩; iexact H
    iapply (give_step X Wt κ ι c k h h13 a b hbk _) $$ [HO Hsl Hrd Hdt Hfr']
    · isplitr; · iexact HR
      isplitl [HO]; · iexact HO
      isplitl [Hsl]
      · unfold Tg
        isplitl [Hsl]
        · rw [show sl (h + 2 + 1) = sl h from sl_add3 h]; iexact Hsl
        iexact Hr2r
      isplitl [Hrd]; · iexact Hrd
      isplitl [Hfr'] <;> iassumption
    iintro ⟨HO, Hfr⟩
    iapply Hk
    isplitl [HO]; · iexact HO
    isplitl [HRc]; · iexact HRc
    isplitl [HC]; · iexact HC
    isplitl [HD]; · iexact HD
    isplitl [HG]; · iexact HG
    isplitl [Hfr]; · rw [show min (h + 1) 13 = h + 1 by omega]; iexact Hfr
    isplitl [Hcp]; · iexact Hcp
    isplitl [Hs1 Hs2 Hs3]
    · isplitl [Hs1]; · iexact Hs1
      isplitl [Hs2] <;> iassumption
    isplitl [Hr1 Hr2 Hr3]
    · isplitl [Hr1]; · iexact Hr1
      isplitl [Hr2] <;> iassumption
    isplitl [HF1]; · iexact HF1
    unfold Ext; rw [if_neg (by omega), if_neg (by omega)]; iempintro
  · obtain rfl : h = 13 := by omega
    rw [if_neg h13]
    rw [Prog.pure_eq_ret, wp_ret]; imodintro
    iapply Hk
    isplitl [HO]
    · have e : Ow a (Function.update b k (13 + 1)) c = Ow a b c := by
        have := Ow_skip a b c k (by omega); rw [hbk] at this; exact this
      unfold owe; rw [e]; iexact HO
    isplitl [HRc]; · iexact HRc
    isplitl [HC]; · iexact HC
    isplitl [HD]; · iexact HD
    isplitl [HG]
    · unfold Giv; rw [Finset.Ico_self, Finset.Ico_eq_empty (by omega)]; iexact HG
    isplitl [Hfr]; · iexact Hfr
    isplitl [Hcp]; · iexact Hcp
    isplitl [Hs1 Hs2 Hs3]
    · isplitl [Hs1]; · iexact Hs1
      isplitl [Hs2] <;> iassumption
    isplitl [Hr1 Hr2 Hr3]
    · isplitl [Hr1]; · iexact Hr1
      isplitl [Hr2] <;> iassumption
    isplitl [HF1]; · iexact HF1
    unfold Ext; rw [if_neg (by omega), if_pos rfl]; iexact Hsl

/-- The rows of `x` and the cast weights, which every stream reads. -/
def memIs (c : Dev nD) : sProp 𝕄 :=
  iprop((((c : Thread nD τ).loc cc0_stg0_0) ↦{fullShare} X c) ∗ (((c : Thread nD τ).loc cc0_scratch1) ↦{fullShare} wbf Wt c))

/-- The first copy of one stream. -/
theorem init_step (c : Dev nD) (k : Fin 4) (a b : Fin 4 → ℕ) (hak : a k = 0) (Q : PUnit → sProp 𝕄) :
    iprop(recs X Wt κ ι ∗ memIs X Wt c ∗ owe c a b ∗ Pre c k)
      ⊢ iprop(((memIs X Wt c ∗ owe c (Function.update a k 1) b ∗ St c k 0) -∗ Q ⟨⟩) -∗ WP c (pInit c k) Q) := by
  unfold Pre St Tg2 memIs Sat
  rw [Dut_pop c k (show 0 < 15 by omega)]
  iintro ⟨#HR, ⟨Hx, Hw⟩, HO, Hsl, ⟨HT0, HT1⟩, HRc, HC, ⟨⟨Hd1, Hd2⟩, HD⟩, HG, Hfr, Hcp, ⟨Hs0, Hs1, Hs2⟩, HRt⟩ Hk
  unfold pInit
  simp only [wp_bind]
  iapply (rows_step X c k _) $$ Hx
  iintro Hx
  iapply (wcols_step Wt c k _) $$ Hw
  iintro Hw
  iapply (put_step c k (sl 0) (acc X Wt k 0 c) _) $$ Hsl
  iintro Hsl
  ihave #Hs0r : iprop(reached ER (sendC c k (sl 0)) (0 / 3)) $$ [Hs0]
  · unfold sendAt; icases Hs0 with ⟨-, #H⟩; iexact H
  iapply (send_step X Wt κ ι c k 0 (by omega) a b hak _) $$ [HO Hsl HT0 Hd1 Hd2]
  · isplitr; · iexact HR
    isplitl [Hsl]; · iexact Hsl
    isplitl [HT0]; · iexact HT0
    isplitl [HO]; · iexact HO
    isplitl [Hd1]; · iexact Hd1
    isplitr; · iexact Hs0r
    iexact Hd2
  iintro ⟨HF, HO⟩
  iapply Hk
  isplitl [Hx Hw]; · isplitl [Hx] <;> iassumption
  isplitl [HO]; · iexact HO
  isplitl [HRc]; · iexact HRc
  isplitl [HC]; · iexact HC
  isplitl [HD]; · iexact HD
  isplitl [HG]; · iexact HG
  isplitl [Hfr]; · iexact Hfr
  isplitl [Hcp]; · iexact Hcp
  isplitl [Hs0 Hs1 Hs2]
  · isplitl [Hs0]; · iexact Hs0
    isplitl [Hs1] <;> iassumption
  isplitl [HRt]; · iexact HRt
  isplitl [HF]; · unfold Fly; iexact HF
  unfold Ext; rw [if_pos rfl]; iexact HT1

/-- The result's buffer with the columns of the streams in `D` written. -/
def outIs (al : F .f32) (c : Dev nD) (D : Finset (Fin 4)) : sProp 𝕄 :=
  iprop(∃ f, ⌜OutOk X Wt al c D f⌝ ∗ (((c : Thread nD τ).loc cc0_stg4_0) ↦{fullShare} f))

/-- The last hop of one stream. -/
theorem last_step (c : Dev nD) (k : Fin 4) (D : Finset (Fin 4)) (al : F .f32) (a b : Fin 4 → ℕ) (ha : ∀ k, 14 < a k) (hb : ∀ k, 14 ≤ b k)
    (Q : PUnit → sProp 𝕄) :
    iprop(recs X Wt κ ι ∗ tmpIs X Wt c 14 ∗ outIs X Wt al c D ∗ owe c a b ∗ St c k 14)
      ⊢ iprop(((tmpIs X Wt c 14 ∗ outIs X Wt al c (insert k D) ∗ owe c a b ∗ Lst c k) -∗ Q ⟨⟩) -∗ WP c (pLast al k) Q) := by
  unfold St Lst Rat outIs
  rw [Rcv_pop c k (show 14 < 15 by omega)]
  iintro ⟨#HR, Ht, ⟨%f, %hf, Ho⟩, HO, ⟨Hc, -⟩, -, -, -, -, Hcp, HS, ⟨Hr0, Hr1, Hr2⟩, HF, HE⟩ Hk
  unfold pLast
  simp only [wp_bind]
  iapply (wait_recv_step X Wt κ ι c k 14 (by omega) a b ha hb _) $$ [Hc HO Hr0]
  · isplitr; · iexact HR
    isplitl [Hc]; · iexact Hc
    isplitl [HO] <;> iassumption
  iintro ⟨HO, Hr3, Hsl⟩
  iapply (get_step c k (sl 15) (acc X Wt k 14 (inD k c)) _) $$ Hsl
  iintro Hsl
  unfold tmpIs
  iapply (tmp_step X Wt c k 14 _) $$ Ht
  iintro Ht
  unfold Prog.lift
  iapply (wp_load_rect 𝒱₀ (c : Thread nD τ) none Set.univ (m := oM) (r := colR k) (Finset.subset_univ _)) $$ Ho; iintro Ho
  rw [wp_ret]; imodintro
  iapply (wp_store 𝒱₀ (c : Thread nD τ) none Set.univ (m := oM) (r := colR k) (Mk := Finset.univ) (Finset.subset_univ _)) $$ Ho; iintro Ho
  rw [wp_ret]; imodintro
  iapply Hk
  isplitl [Ht]; · iexact Ht
  isplitl [Ho]
  · iexists _
    isplitr; · ipureintro; exact outOk_write X Wt al c D k f hf
    iexact Ho
  isplitl [HO]; · iexact HO
  isplitl [Hcp]; · iexact Hcp
  isplitl [HS]; · iexact HS
  isplitl [Hr1 Hr2 Hr3]
  · isplitl [Hr1]; · iexact Hr1
    isplitl [Hr2] <;> iassumption
  isplitl [HF]; · iexact HF
  isplitl [HE]
  · iapply (Entails.of_eq (show Ext (F := F) c k 14 = slotAny c k (sl 13) from by unfold Ext; rw [if_neg (by omega), if_pos rfl])); iexact HE
  unfold slotIs slotAny
  icases Hsl with ⟨%f, -, Hs⟩
  iexists f; iexact Hs

/-- The wait for the last copy of one stream to have left. -/
theorem end_step (c : Dev nD) (k : Fin 4) (a b : Fin 4 → ℕ) (Q : PUnit → sProp 𝕄) :
    iprop(recs X Wt κ ι ∗ owe c a b ∗ Lst c k)
      ⊢ iprop(((owe c a b ∗ Fin' c k) -∗ Q ⟨⟩) -∗ WP c (pWaitSend k 14) Q) := by
  unfold Lst Fin' Sat
  iintro ⟨#HR, HO, Hcp, ⟨Hs0, Hs1, Hs2⟩, HRt, HF, H13, H15⟩ Hk
  iapply (wait_send_step X Wt κ ι c k 14 (by omega) a b _) $$ [HF HO Hs0]
  · isplitr; · iexact HR
    isplitl [HF]; · unfold Fly; iexact HF
    isplitl [HO] <;> iassumption
  iintro ⟨HO, Hs3, Hsl⟩
  iapply Hk
  isplitl [HO]; · iexact HO
  isplitl [Hcp]; · iexact Hcp
  isplitl [Hs1 Hs2 Hs3]
  · isplitl [Hs1]; · iexact Hs1
    isplitl [Hs2] <;> iassumption
  isplitl [HRt]; · iexact HRt
  isplitl [H13]; · iexact H13
  isplitl [Hsl] <;> iassumption

/-! ### The four streams -/

/-- One thing per stream. -/
def all4 (A : Fin 4 → sProp 𝕄) : sProp 𝕄 := iprop(A 0 ∗ A 1 ∗ A 2 ∗ A 3)

/-- One step over the four streams, from the step of each. -/
theorem four_step (c : Dev nD) (f : Fin 4 → P F PUnit) (O : Finset (Fin 4) → sProp 𝕄) (A B : Fin 4 → sProp 𝕄)
    (hstep : ∀ (D : Finset (Fin 4)) (k : Fin 4), k ∉ D → ∀ Q : PUnit → sProp 𝕄,
      iprop(O D ∗ A k) ⊢ iprop(((O (insert k D) ∗ B k) -∗ Q ⟨⟩) -∗ WP c (f k) Q)) (Q : PUnit → sProp 𝕄) :
    iprop(O ∅ ∗ all4 A) ⊢ iprop(((O Finset.univ ∗ all4 B) -∗ Q ⟨⟩) -∗ WP c (four f) Q) := by
  unfold all4 four
  simp only [wp_bind]
  iintro ⟨HO, H0, H1, H2, H3⟩ Hk
  iapply (hstep ∅ 0 (by decide) _) $$ [HO H0]
  · isplitl [HO] <;> iassumption
  iintro ⟨HO, H0⟩
  iapply (hstep (insert 0 ∅) 2 (by decide) _) $$ [HO H2]
  · isplitl [HO] <;> iassumption
  iintro ⟨HO, H2⟩
  iapply (hstep (insert 2 (insert 0 ∅)) 1 (by decide) _) $$ [HO H1]
  · isplitl [HO] <;> iassumption
  iintro ⟨HO, H1⟩
  iapply (hstep (insert 1 (insert 2 (insert 0 ∅))) 3 (by decide) _) $$ [HO H3]
  · isplitl [HO] <;> iassumption
  iintro ⟨HO, H3⟩
  iapply Hk
  isplitl [HO]
  · rw [show (insert 3 (insert 1 (insert 2 (insert 0 ∅))) : Finset (Fin 4)) = Finset.univ from by decide]; iexact HO
  isplitl [H0]; · iexact H0
  isplitl [H1]; · iexact H1
  isplitl [H2] <;> iassumption

/-- `p` at the streams in `D`, `q` at the others. -/
def upto (D : Finset (Fin 4)) (p q : ℕ) : Fin 4 → ℕ := fun k => if k ∈ D then p else q
/-- One more stream. -/
theorem upto_insert (D : Finset (Fin 4)) (k : Fin 4) (p q : ℕ) : Function.update (upto D p q) k p = upto (insert k D) p q := by
  funext k'
  unfold upto
  by_cases h : k' = k
  · subst h; rw [Function.update_self, if_pos (Finset.mem_insert_self _ _)]
  · rw [Function.update_of_ne h]; simp [Finset.mem_insert, h]
/-- No stream. -/
theorem upto_empty (p q : ℕ) : upto ∅ p q = fun _ => q := by funext k; exact if_neg (Finset.notMem_empty k)
/-- All streams. -/
theorem upto_univ (p q : ℕ) : upto Finset.univ p q = fun _ => p := by funext k; exact if_pos (Finset.mem_univ k)
/-- A stream not yet done. -/
theorem upto_not {D : Finset (Fin 4)} {k : Fin 4} (h : k ∉ D) (p q : ℕ) : upto D p q k = q := if_neg h
/-- A bound below both. -/
theorem le_upto (D : Finset (Fin 4)) {n p q : ℕ} (hp : n ≤ p) (hq : n ≤ q) (k : Fin 4) : n ≤ upto D p q k := by
  unfold upto; split <;> assumption

/-- All first copies. -/
theorem inits_step (c : Dev nD) (Q : PUnit → sProp 𝕄) :
    iprop(recs X Wt κ ι ∗ memIs X Wt c ∗ owe c (fun _ => 0) (fun _ => 0) ∗ all4 (Pre c))
      ⊢ iprop(((memIs X Wt c ∗ owe c (fun _ => 1) (fun _ => 0) ∗ all4 (fun k => St c k 0)) -∗ Q ⟨⟩) -∗ WP c (four (pInit c)) Q) := by
  have h := four_step c (pInit c) (fun D => iprop(recs X Wt κ ι ∗ memIs X Wt c ∗ owe c (upto D 1 0) (fun _ => 0))) (Pre c) (fun k => St c k 0)
    (fun D k hk Q => by
      iintro ⟨⟨#HR, Hm, HO⟩, HA⟩ Hk
      iapply (init_step X Wt κ ι c k (upto D 1 0) (fun _ => 0) (upto_not hk 1 0) Q) $$ [Hm HO HA]
      · isplitr; · iexact HR
        isplitl [Hm]; · iexact Hm
        isplitl [HO] <;> iassumption
      iintro ⟨Hm, HO, HB⟩
      iapply Hk
      isplitr [HB]
      · isplitr; · iexact HR
        isplitl [Hm]; · iexact Hm
        rw [upto_insert]; iexact HO
      iexact HB) Q
  rw [upto_empty, upto_univ] at h
  iintro ⟨#HR, Hm, HO, HA⟩ Hk
  iapply h $$ [Hm HO HA]
  · isplitr [HA]
    · isplitr; · iexact HR
      isplitl [Hm] <;> iassumption
    iexact HA
  iintro ⟨⟨-, Hm, HO⟩, HB⟩
  iapply Hk
  isplitl [Hm]; · iexact Hm
  isplitl [HO] <;> iassumption

/-- All streams' parts of a hop. -/
theorem hops_step (c : Dev nD) (h : ℕ) (hh : h < 14) (Q : PUnit → sProp 𝕄) :
    iprop(recs X Wt κ ι ∗ tmpIs X Wt c h ∗ owe c (fun _ => h + 1) (fun _ => h) ∗ all4 (fun k => St c k h))
      ⊢ iprop(((tmpIs X Wt c h ∗ owe c (fun _ => h + 2) (fun _ => h) ∗ all4 (fun k => Mid c k h)) -∗ Q ⟨⟩) -∗ WP c (four (pHop c h)) Q) := by
  have h' := four_step c (pHop c h) (fun D => iprop(recs X Wt κ ι ∗ tmpIs X Wt c h ∗ owe c (upto D (h + 2) (h + 1)) (fun _ => h)))
    (fun k => St c k h) (fun k => Mid c k h)
    (fun D k hk Q => by
      iintro ⟨⟨#HR, Hm, HO⟩, HA⟩ Hk
      iapply (hop_step X Wt κ ι c k h hh (upto D (h + 2) (h + 1)) (fun _ => h) (fun k => le_upto D (by omega) (by omega) k)
        (fun _ => le_refl _) (upto_not hk _ _) Q) $$ [Hm HO HA]
      · isplitr; · iexact HR
        isplitl [Hm]; · iexact Hm
        isplitl [HO] <;> iassumption
      iintro ⟨Hm, HO, HB⟩
      iapply Hk
      isplitr [HB]
      · isplitr; · iexact HR
        isplitl [Hm]; · iexact Hm
        rw [upto_insert]; iexact HO
      iexact HB) Q
  rw [upto_empty, upto_univ] at h'
  iintro ⟨#HR, Hm, HO, HA⟩ Hk
  iapply h' $$ [Hm HO HA]
  · isplitr [HA]
    · isplitr; · iexact HR
      isplitl [Hm] <;> iassumption
    iexact HA
  iintro ⟨⟨-, Hm, HO⟩, HB⟩
  iapply Hk
  isplitl [Hm]; · iexact Hm
  isplitl [HO] <;> iassumption

/-- All streams' ends of a hop. -/
theorem dones_step (c : Dev nD) (h : ℕ) (hh : h < 14) (a : Fin 4 → ℕ) (Q : PUnit → sProp 𝕄) :
    iprop(recs X Wt κ ι ∗ owe c a (fun _ => h) ∗ all4 (fun k => Mid c k h))
      ⊢ iprop(((owe c a (fun _ => h + 1) ∗ all4 (fun k => St c k (h + 1))) -∗ Q ⟨⟩) -∗ WP c (four (pDone c h)) Q) := by
  have h' := four_step c (pDone c h) (fun D => iprop(recs X Wt κ ι ∗ owe c a (upto D (h + 1) h)))
    (fun k => Mid c k h) (fun k => St c k (h + 1))
    (fun D k hk Q => by
      iintro ⟨⟨#HR, HO⟩, HA⟩ Hk
      iapply (done_step X Wt κ ι c k h hh a (upto D (h + 1) h) (upto_not hk _ _) Q) $$ [HO HA]
      · isplitr; · iexact HR
        isplitl [HO] <;> iassumption
      iintro ⟨HO, HB⟩
      iapply Hk
      isplitr [HB]
      · isplitr; · iexact HR
        rw [upto_insert]; iexact HO
      iexact HB) Q
  rw [upto_empty, upto_univ] at h'
  iintro ⟨#HR, HO, HA⟩ Hk
  iapply h' $$ [HO HA]
  · isplitr [HA]
    · isplitr; · iexact HR
      iexact HO
    iexact HA
  iintro ⟨⟨-, HO⟩, HB⟩
  iapply Hk
  isplitl [HO] <;> iassumption

/-- All last hops. -/
theorem lasts_step (c : Dev nD) (al : F .f32) (f : Vec F S256x2048 .f32) (Q : PUnit → sProp 𝕄) :
    iprop(recs X Wt κ ι ∗ tmpIs X Wt c 14 ∗ (((c : Thread nD τ).loc cc0_stg4_0) ↦{fullShare} f) ∗ owe c (fun _ => 15) (fun _ => 14) ∗ all4 (fun k => St c k 14))
      ⊢ iprop(((tmpIs X Wt c 14 ∗ (((c : Thread nD τ).loc cc0_stg4_0) ↦{fullShare} outF X Wt al c) ∗ owe c (fun _ => 15) (fun _ => 14) ∗ all4 (Lst c)) -∗ Q ⟨⟩)
        -∗ WP c (four (pLast al)) Q) := by
  have h' := four_step c (pLast al) (fun D => iprop(recs X Wt κ ι ∗ tmpIs X Wt c 14 ∗ outIs X Wt al c D ∗ owe c (fun _ => 15) (fun _ => 14)))
    (fun k => St c k 14) (Lst c)
    (fun D k hk Q => by
      iintro ⟨⟨#HR, Hm, Ho, HO⟩, HA⟩ Hk
      iapply (last_step X Wt κ ι c k D al (fun _ => 15) (fun _ => 14) (fun _ => by omega) (fun _ => le_refl _) Q) $$ [Hm Ho HO HA]
      · isplitr; · iexact HR
        isplitl [Hm]; · iexact Hm
        isplitl [Ho]; · iexact Ho
        isplitl [HO] <;> iassumption
      iintro ⟨Hm, Ho, HO, HB⟩
      iapply Hk
      isplitr [HB]
      · isplitr; · iexact HR
        isplitl [Hm]; · iexact Hm
        isplitl [Ho] <;> iassumption
      iexact HB) Q
  iintro ⟨#HR, Hm, Ho, HO, HA⟩ Hk
  iapply h' $$ [Hm Ho HO HA]
  · isplitr [HA]
    · isplitr; · iexact HR
      isplitl [Hm]; · iexact Hm
      isplitl [Ho]
      · unfold outIs; iexists f
        isplitr; · ipureintro; exact fun i ⟨k, hk, _⟩ => absurd hk (Finset.notMem_empty k)
        iexact Ho
      iexact HO
    iexact HA
  iintro ⟨⟨-, Hm, Ho, HO⟩, HB⟩
  iapply Hk
  isplitl [Hm]; · iexact Hm
  isplitl [Ho]
  · unfold outIs
    icases Ho with ⟨%g, %hg, Ho⟩
    rw [← outOk_univ X Wt al c g hg]; iexact Ho
  isplitl [HO] <;> iassumption

/-- All waits for the last copies. -/
theorem ends_step (c : Dev nD) (a b : Fin 4 → ℕ) (Q : PUnit → sProp 𝕄) :
    iprop(recs X Wt κ ι ∗ owe c a b ∗ all4 (Lst c))
      ⊢ iprop(((owe c a b ∗ all4 (Fin' c)) -∗ Q ⟨⟩) -∗ WP c (four (fun k => pWaitSend k 14)) Q) := by
  have h' := four_step c (fun k => pWaitSend k 14) (fun D => iprop(recs X Wt κ ι ∗ owe c a b)) (Lst c) (Fin' c)
    (fun D k hk Q => by
      iintro ⟨⟨#HR, HO⟩, HA⟩ Hk
      iapply (end_step X Wt κ ι c k a b Q) $$ [HO HA]
      · isplitr; · iexact HR
        isplitl [HO] <;> iassumption
      iintro ⟨HO, HB⟩
      iapply Hk
      isplitr [HB]
      · isplitr; · iexact HR
        iexact HO
      iexact HB) Q
  iintro ⟨#HR, HO, HA⟩ Hk
  iapply h' $$ [HO HA]
  · isplitr [HA]
    · isplitr; · iexact HR
      iexact HO
    iexact HA
  iintro ⟨⟨-, HO⟩, HB⟩
  iapply Hk
  isplitl [HO] <;> iassumption

/-- The hops from `h` on. -/
theorem hopsFrom_step (c : Dev nD) (n : ℕ) : ∀ (h : ℕ), h + n = 14 → ∀ Q : PUnit → sProp 𝕄,
    iprop(recs X Wt κ ι ∗ memIs X Wt c ∗ (∃ f, ((c : Thread nD τ).loc cc0_scratch2) ↦{fullShare} f) ∗ owe c (fun _ => h + 1) (fun _ => h) ∗ all4 (fun k => St c k h))
      ⊢ iprop(((memIs X Wt c ∗ (∃ f, ((c : Thread nD τ).loc cc0_scratch2) ↦{fullShare} f) ∗ owe c (fun _ => 15) (fun _ => 14) ∗ all4 (fun k => St c k 14)) -∗ Q ⟨⟩)
        -∗ WP c (hopsFrom c n h) Q) := by
  induction n with
  | zero =>
    intro h hh Q
    obtain rfl : h = 14 := by omega
    unfold hopsFrom WP
    iintro ⟨-, Hm, Ht, HO, HA⟩ Hk
    rw [Prog.pure_eq_ret, wp_ret]; imodintro
    iapply Hk
    isplitl [Hm]; · iexact Hm
    isplitl [Ht]; · iexact Ht
    isplitl [HO] <;> iassumption
  | succ n ih =>
    intro h hh Q
    unfold hopsFrom pHops memIs
    simp only [wp_bind]
    iintro ⟨#HR, ⟨Hx, Hw⟩, Ht, HO, HA⟩ Hk
    iapply (dots_step X Wt c h _) $$ [Hx Hw Ht]
    · isplitl [Hx]; · iexact Hx
      isplitl [Hw] <;> iassumption
    iintro ⟨Hx, Hw, Ht⟩
    iapply (hops_step X Wt κ ι c h (by omega) _) $$ [Ht HO HA]
    · isplitr; · iexact HR
      isplitl [Ht]; · unfold tmpIs; iexact Ht
      isplitl [HO] <;> iassumption
    iintro ⟨Ht, HO, HA⟩
    iapply (dones_step X Wt κ ι c h (by omega) (fun _ => h + 2) _) $$ [HO HA]
    · isplitr; · iexact HR
      isplitl [HO] <;> iassumption
    iintro ⟨HO, HA⟩
    iapply (ih (h + 1) (by omega) Q) $$ [Hx Hw Ht HO HA]
    · isplitr; · iexact HR
      isplitl [Hx Hw]; · unfold memIs; isplitl [Hx] <;> iassumption
      isplitl [Ht]; · unfold tmpIs; iexists _; iexact Ht
      isplitl [HO] <;> iassumption
    unfold memIs
    iexact Hk

end Streams

end Cert.KernelIdeal.Hand
-- ==== Proof.Body.lean ====
/- The whole body on one device, from what it holds at the start to what it leaves. -/
module

public import proofs.«01_k».proof.Proof.Streams
public import Idealize.ShloMosaic.Lib.Ring

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

/-! ### Things over all semaphores, stream by stream -/

omit [FloatOps F] in
/-- Four things. -/
theorem bigSep_fin4 (Φ : Fin 4 → sProp 𝕄) : bigSep Finset.univ Φ = all4 Φ :=
  bigSep_univ_eq_bigSepL [0, 1, 2, 3] (by decide) (by decide) Φ
omit [FloatOps F] in
/-- Three things. -/
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- What is held at the semaphores of one stream. -/
def perK (Φ : Option Ok → sProp 𝕄) (k : Fin 4) : sProp 𝕄 :=
  iprop((bigSep Finset.univ fun s : Fin 3 => Φ (some (.inl (k, s)))) ∗ (bigSep Finset.univ fun s : Fin 3 => Φ (some (.inr (.inl (k, s)))))
    ∗ Φ (some (.inr (.inr k))))

omit [FloatOps F] in
/-- What is held at all semaphores is what is held at the barrier's and at each stream's. -/
theorem bigSep_ok (Φ : Ok → sProp 𝕄) : bigSep Finset.univ Φ
    = iprop(bigSep Finset.univ fun k => iprop((bigSep Finset.univ fun s : Fin 3 => Φ (.inl (k, s))) ∗ (bigSep Finset.univ fun s : Fin 3 => Φ (.inr (.inl (k, s))))
    ∗ Φ (.inr (.inr k)))) := by
  rw [bigSep_univ_sum, bigSep_univ_sum, bigSep_univ_prod, bigSep_univ_prod, bigSep_sep', bigSep_sep']; rfl

omit [FloatOps F] in
/-- What is held at all semaphores is what is held at the barrier's and at each stream's. -/
theorem bigSep_cells (Φ : Option Ok → sProp 𝕄) : bigSep Finset.univ Φ = iprop(Φ none ∗ bigSep Finset.univ fun o : Ok => Φ (some o)) := by
  rw [bigSep_univ_equiv ((Equiv.sumComm Unit Ok).trans (Equiv.optionEquivSumPUnit Ok).symm), bigSep_univ_sum, bigSep_univ_of_subsingleton ()]
  rfl

omit [FloatOps F] in
/-- The same, stream by stream. -/
theorem cells_split (Φ : Option Ok → sProp 𝕄) : bigSep Finset.univ Φ = iprop(Φ none ∗ all4 (perK Φ)) := by
  rw [bigSep_cells, bigSep_ok, bigSep_fin4]; rfl

/-! ### The slots of the accumulators' buffer -/

/-- The elements of a slot. -/
def slotSet (p : Fin 4 × Fin 3) : Finset S4x3x256x512.Idx := (bM.access (slotR p.1 p.2)).set

/-- An element is in a slot when its first two coordinates say so. -/
theorem mem_slotSet (p : Fin 4 × Fin 3) (i : S4x3x256x512.Idx) : i ∈ slotSet p ↔ (i 0 = p.1 ∧ i 1 = p.2) := by
  unfold slotSet
  constructor
  · intro hm
    obtain ⟨j, -, rfl⟩ := Finset.mem_map.mp hm
    have h0 : (j 0).val < 1 := (j 0).isLt
    have h1 : (j 1).val < 1 := (j 1).isLt
    constructor
    · refine Fin.ext ?_; show p.1.val + 1 * (j 0).val = p.1.val; omega
    · refine Fin.ext ?_; show p.2.val + 1 * (j 1).val = p.2.val; omega
  · rintro ⟨h0, h1⟩
    refine Finset.mem_map.mpr ⟨(Fin.cons ⟨0, by decide⟩ (Fin.cons ⟨0, by decide⟩ (Fin.cons (i 2) (Fin.cons (i 3) (fun a => a.elim0)))) : S1x1x256x512.Idx), Finset.mem_univ _, ?_⟩
    funext a; fin_cases a <;> refine Fin.ext ?_
    · show p.1.val + 1 * 0 = (i 0).val; rw [h0]; rfl
    · show p.2.val + 1 * 0 = (i 1).val; rw [h1]; rfl
    · show 0 + 1 * (i 2).val = (i 2).val; omega
    · show 0 + 1 * (i 3).val = (i 3).val; omega

/-- Different slots share nothing. -/
theorem slotSet_disj (p p' : Fin 4 × Fin 3) (h : p ≠ p') : Disjoint (slotSet p) (slotSet p') := by
  rw [Finset.disjoint_left]
  intro i hi hi'
  rw [mem_slotSet] at hi hi'
  exact h (Prod.ext (hi.1.symm.trans hi'.1) (hi.2.symm.trans hi'.2))
/-- The slots are the whole buffer. -/
theorem slotSet_cover : Finset.univ.biUnion slotSet = Finset.univ := by
  ext i
  simp only [Finset.mem_biUnion, Finset.mem_univ, true_and, iff_true]
  exact ⟨(i 0, i 1), (mem_slotSet _ _).mpr ⟨rfl, rfl⟩⟩

/-- All slots, whatever they hold. -/
def slots (c : Dev nD) : sProp 𝕄 := all4 fun k => bigSep Finset.univ fun s : Fin 3 => slotAny c k s

omit [FloatOps F] in
/-- A slot holds something. -/
theorem slotAny_intro (c : Dev nD) (k : Fin 4) (s : Fin 3) (f : Buf (Elt F) ((c : Thread nD τ).loc cc0_scratch0)) :
    (((c : Thread nD τ).loc cc0_scratch0) ↦[slotSet (k, s)]{fullShare} f : sProp 𝕄) ⊢ slotAny c k s := by
  unfold slotAny slotPts
  iintro H; iexists f; iexact H

omit [FloatOps F] in
/-- The whole buffer is its slots. -/
theorem slots_of (c : Dev nD) (f : Buf (Elt F) ((c : Thread nD τ).loc cc0_scratch0)) :
    (((c : Thread nD τ).loc cc0_scratch0) ↦{fullShare} f : sProp 𝕄) ⊢ slots c := by
  unfold slots
  rw [← bigSep_fin4, ← bigSep_univ_prod (fun p : Fin 4 × Fin 3 => slotAny (F := F) c p.1 p.2)]
  refine BIBase.Entails.trans (Entails.of_eq (Idealize.ShloMosaic.Ring.pointsTo_blocks (ℓ := (c : Thread nD τ).loc cc0_scratch0) slotSet slotSet_disj slotSet_cover f)) ?_
  exact bigSep_mono fun p _ => slotAny_intro c p.1 p.2 f

omit [FloatOps F] in
/-- The slots are the whole buffer. -/
theorem of_slots (c : Dev nD) (f₀ : Buf (Elt F) ((c : Thread nD τ).loc cc0_scratch0)) :
    slots c ⊢ (iprop(∃ f, ((c : Thread nD τ).loc cc0_scratch0) ↦{fullShare} f) : sProp 𝕄) := by
  unfold slots
  rw [← bigSep_fin4, ← bigSep_univ_prod (fun p : Fin 4 × Fin 3 => slotAny (F := F) c p.1 p.2)]
  exact Idealize.ShloMosaic.Ring.pointsTo_blocks_join_exists (ℓ := (c : Thread nD τ).loc cc0_scratch0) slotSet slotSet_disj slotSet_cover f₀

section Run

variable (X : Dev nD → Vec F S4096x256 .i8) (Wt : Dev nD → Vec F S256x2048 .i8)
variable (κ : Dev nD × Option Ok → ℕ) (ι : Key → ℕ)

/-- The rights to take the slots announced. -/
def Wrt (c : Dev nD) (k : Fin 4) : sProp 𝕄 := bigSep (Finset.Ico 0 13) fun j => writeTok ES (outD k c, k, j) 1
/-- The credits to come of one stream. -/
def Cre (c : Dev nD) (k : Fin 4) : sProp 𝕄 := bigSep (Finset.Ico 0 13) fun j => cred (tallyAt (credC c k) j 1)
/-- A device's positions at all its cells. -/
def posn (c : Dev nD) : sProp 𝕄 := bigSep Finset.univ fun q : Option Ok => atPos ER (cellC (c, q)) 0 ∅ 0
/-- What a device gets at the start: duties, rights and positions. -/
def Lin (c : Dev nD) : sProp 𝕄 :=
  iprop((dutyTok ER (barC (lft c)) 0 0 ∗ dutyTok ER (barC (rgt c)) 0 1) ∗ all4 (fun k => iprop(Dut c k 0 ∗ Giv c k 0 ∗ Wrt c k)) ∗ posn c)
/-- The credits a device gets at the start. -/
def Crds (c : Dev nD) : sProp 𝕄 := iprop(cred (tallyAt (barC c) 0 2) ∗ all4 (fun k => iprop(Rcv c k 0 ∗ Cre c k)))

/-- The start of one stream, but for its peer's slots. -/
def Pre' (c : Dev nD) (k : Fin 4) : sProp 𝕄 :=
  iprop(slotAny c k (sl 0) ∗ Rcv c k 0 ∗ Crd c k 0 ∗ Dut c k 0 ∗ Giv c k 0 ∗ freed c k 0 ∗ credPos c k 0 ∗ Sat c k 0 ∗ Rat c k 0)

omit [FloatOps F] in
/-- The start of one stream and its peer's slots. -/
theorem pre_join (c : Dev nD) (k : Fin 4) : iprop(Pre' (F := F) c k ∗ Tg2 (outD k c) k) ⊢ Pre c k := by
  unfold Pre' Pre
  iintro ⟨⟨H1, H2⟩, H3⟩
  isplitl [H1]; · iexact H1
  isplitl [H3] <;> iassumption

/-- One stream's start, from what the device gets. -/
theorem pre_intro (c : Dev nD) (k : Fin 4) :
    iprop(recs X Wt κ ι ∗ (Dut c k 0 ∗ Giv c k 0 ∗ Wrt c k) ∗ perK (fun q => atPos ER (cellC (c, q)) 0 ∅ 0) k ∗ (Rcv c k 0 ∗ Cre c k)
        ∗ bigSep Finset.univ fun s : Fin 3 => slotAny c k s)
      ⊢ iprop(Pre' c k ∗ Tg2 c k) := by
  unfold perK Pre' Tg2 Tg Sat Rat sendAt recvAt credPos
  rw [bigSep_fin3, bigSep_fin3, bigSep_fin3]
  iintro ⟨#HR, ⟨HD, HG, HW⟩, ⟨⟨Hs0, Hs1, Hs2⟩, ⟨Hr0, Hr1, Hr2⟩, Hc⟩, ⟨HRc, HC⟩, S0, S1, S2⟩
  ihave #Rr0 := (recs_reached X Wt κ ι (c, some (.inr (.inl (k, 0))))) $$ HR
  ihave #Rr1 := (recs_reached X Wt κ ι (c, some (.inr (.inl (k, 1))))) $$ HR
  ihave #Rr2 := (recs_reached X Wt κ ι (c, some (.inr (.inl (k, 2))))) $$ HR
  ihave #Rs0 := (recs_reached X Wt κ ι (c, some (.inl (k, 0)))) $$ HR
  ihave #Rs1 := (recs_reached X Wt κ ι (c, some (.inl (k, 1)))) $$ HR
  ihave #Rs2 := (recs_reached X Wt κ ι (c, some (.inl (k, 2)))) $$ HR
  isplitr [S1 S2]
  · isplitl [S0]; · iexact S0
    isplitl [HRc]; · iexact HRc
    isplitl [HC HW]
    · iapply (Entails.of_eq (show iprop(Cre c k ∗ Wrt c k) = Crd (F := F) c k 0 from by
        unfold Cre Wrt Crd; rw [bigSep_sep']))
      isplitl [HC] <;> iassumption
    isplitl [HD]; · iexact HD
    isplitl [HG]; · iexact HG
    isplitr
    · iapply (Entails.of_eq (show iprop(emp) = freed (F := F) c k 0 from by
        unfold freed; rw [Finset.range_zero, BI.bigSep_empty]; rfl))
      iempintro
    isplitl [Hc]
    · iexists ∅
      isplitr; · ipureintro; exact ⟨Finset.empty_subset _, Nat.zero_le _⟩
      isplitl [Hc]; · iexact Hc
      rw [BI.bigSep_empty]; iempintro
    isplitl [Hs0 Hs1 Hs2]
    · isplitl [Hs0]; · isplitl; · iexact Hs0
                       iexact Rs0
      isplitl [Hs1]; · isplitl; · iexact Hs1
                       iexact Rs1
      isplitl; · iexact Hs2
      iexact Rs2
    isplitl [Hr1]; · isplitl; · iexact Hr1
                     iexact Rr1
    isplitl [Hr2]; · isplitl; · iexact Hr2
                     iexact Rr2
    isplitl; · iexact Hr0
    iexact Rr0
  isplitl [S1]
  · isplitl; · iexact S1
    iexact Rr1
  isplitl; · iexact S2
  iexact Rr2

/-- A send cell past its last copy closes. -/
theorem send_close (c : Dev nD) (k : Fin 4) (j : ℕ) (hj : 15 ≤ j) :
    iprop(recs X Wt κ ι ∗ sendAt c k j) ⊢ (|={Set.univ}=> semVal (sendC c k (sl j)) 0 : sProp 𝕄) := by
  unfold sendAt
  iintro ⟨#HR, Hat, -⟩
  iapply (Rounds.cell_close ER (rd X Wt) (Set.mem_univ (κ (c, some (.inl (k, sl j))))) (fun h => h) (R := j / 3)
    (fun r hr => duties_late X Wt (sendC c k (sl j)) r (by omega)))
  isplitr; · iapply (recs_cell X Wt κ ι (c, some (.inl (k, sl j)))); iexact HR
  iexact Hat
/-- A receive cell past its last copy closes. -/
theorem recv_close (c : Dev nD) (k : Fin 4) (j : ℕ) (hj : 15 ≤ j) :
    iprop(recs X Wt κ ι ∗ recvAt c k j) ⊢ (|={Set.univ}=> semVal (recvC c k (sl (j + 1))) 0 : sProp 𝕄) := by
  unfold recvAt
  iintro ⟨#HR, Hat, -⟩
  iapply (Rounds.cell_close ER (rd X Wt) (Set.mem_univ (κ (c, some (.inr (.inl (k, sl (j + 1))))))) (fun h => h) (R := j / 3)
    (fun r hr => duties_late X Wt (recvC c k (sl (j + 1))) r (by omega)))
  isplitr; · iapply (recs_cell X Wt κ ι (c, some (.inr (.inl (k, sl (j + 1)))))); iexact HR
  iexact Hat
/-- A credit cell past its last credit closes. -/
theorem cred_close (c : Dev nD) (k : Fin 4) :
    iprop(recs X Wt κ ι ∗ credPos c k 13) ⊢ (|={Set.univ}=> semVal (credC c k) 0 : sProp 𝕄) := by
  unfold credPos
  iintro ⟨#HR, %T, %hT, Hat, -⟩
  have hTr : Finset.range 13 ⊆ T := by
    rw [Finset.eq_of_subset_of_card_le hT.1 (by rw [Finset.card_range]; exact hT.2)]
  imod (Rounds.fupd_skip ER (rd X Wt) (κ := κ (c, some (.inr (.inr k)))) (g := credC c k) (R := 0) (m := 13) (T := T)
    (by rw [duties_cred]; exact hTr) (expect_cred X Wt c k).symm (Set.mem_univ _)) $$ [Hat] with ⟨Hat, -⟩
  · isplitr; · iapply (recs_cell X Wt κ ι (c, some (.inr (.inr k)))); iexact HR
    iexact Hat
  iapply (Rounds.cell_close ER (rd X Wt) (Set.mem_univ (κ (c, some (.inr (.inr k))))) (fun h => h) (R := 0 + 1)
    (fun r hr => duties_cred_late X Wt c k r (by omega)))
  isplitr; · iapply (recs_cell X Wt κ ι (c, some (.inr (.inr k)))); iexact HR
  iexact Hat
/-- The barrier's cell past its round closes. -/
theorem bar_close (c : Dev nD) :
    iprop(recs X Wt κ ι ∗ atPos ER (barC c) 1 ∅ 0) ⊢ (|={Set.univ}=> semVal (barC c) 0 : sProp 𝕄) := by
  iintro ⟨#HR, Hat⟩
  iapply (Rounds.cell_close ER (rd X Wt) (Set.mem_univ (κ (c, none))) (fun h => h) (R := 1)
    (fun r hr => duties_bar_late X Wt c r hr))
  isplitr; · iapply (recs_cell X Wt κ ι (c, none)); iexact HR
  iexact Hat

/-- The end of one stream: its cells close and its slots are back. -/
theorem fin_close (c : Dev nD) (k : Fin 4) :
    iprop(recs X Wt κ ι ∗ Fin' c k)
      ⊢ (|={Set.univ}=> iprop(perK (fun q => semVal (cellC (c, q)) 0) k ∗ bigSep Finset.univ fun s : Fin 3 => slotAny c k s) : sProp 𝕄) := by
  unfold perK Fin' Sat Rat
  rw [bigSep_fin3, bigSep_fin3, bigSep_fin3]
  iintro ⟨#HR, Hcp, ⟨Hs0, Hs1, Hs2⟩, ⟨Hr1, Hr2, Hr0⟩, S1, S2, S0⟩
  imod (cred_close X Wt κ ι c k) $$ [Hcp] with Zc
  · isplitr; · iexact HR
    iexact Hcp
  imod (send_close X Wt κ ι c k 15 (by omega)) $$ [Hs0] with Zs0
  · isplitr; · iexact HR
    iexact Hs0
  imod (send_close X Wt κ ι c k 16 (by omega)) $$ [Hs1] with Zs1
  · isplitr; · iexact HR
    iexact Hs1
  imod (send_close X Wt κ ι c k 17 (by omega)) $$ [Hs2] with Zs2
  · isplitr; · iexact HR
    iexact Hs2
  imod (recv_close X Wt κ ι c k 15 (by omega)) $$ [Hr1] with Zr1
  · isplitr; · iexact HR
    iexact Hr1
  imod (recv_close X Wt κ ι c k 16 (by omega)) $$ [Hr2] with Zr2
  · isplitr; · iexact HR
    iexact Hr2
  imod (recv_close X Wt κ ι c k 17 (by omega)) $$ [Hr0] with Zr0
  · isplitr; · iexact HR
    iexact Hr0
  imodintro
  isplitr [S0 S1 S2]
  · isplitl [Zs0 Zs1 Zs2]
    · isplitl [Zs0]; · iexact Zs0
      isplitl [Zs1]; · iexact Zs1
      iexact Zs2
    isplitl [Zr0 Zr1 Zr2]
    · isplitl [Zr0]; · iexact Zr0
      isplitl [Zr1]; · iexact Zr1
      iexact Zr2
    iexact Zc
  isplitl [S0]; · iexact S0
  isplitl [S1]; · iexact S1
  iexact S2

/-- The whole end: all cells close and all slots are back. -/
theorem fins_close (c : Dev nD) :
    iprop(recs X Wt κ ι ∗ atPos ER (barC c) 1 ∅ 0 ∗ all4 (Fin' c))
      ⊢ (|={Set.univ}=> iprop((bigSep Finset.univ fun q : Option Ok => semVal (cellC (c, q)) 0) ∗ slots c) : sProp 𝕄) := by
  rw [cells_split]
  unfold all4 slots all4
  iintro ⟨#HR, Hb, H0, H1, H2, H3⟩
  imod (bar_close X Wt κ ι c) $$ [Hb] with Zb
  · isplitr; · iexact HR
    iexact Hb
  imod (fin_close X Wt κ ι c 0) $$ [H0] with ⟨Z0, S0⟩
  · isplitr; · iexact HR
    iexact H0
  imod (fin_close X Wt κ ι c 1) $$ [H1] with ⟨Z1, S1⟩
  · isplitr; · iexact HR
    iexact H1
  imod (fin_close X Wt κ ι c 2) $$ [H2] with ⟨Z2, S2⟩
  · isplitr; · iexact HR
    iexact H2
  imod (fin_close X Wt κ ι c 3) $$ [H3] with ⟨Z3, S3⟩
  · isplitr; · iexact HR
    iexact H3
  imodintro
  isplitr [S0 S1 S2 S3]
  · isplitl [Zb]; · iexact Zb
    isplitl [Z0]; · iexact Z0
    isplitl [Z1]; · iexact Z1
    isplitl [Z2] <;> iassumption
  isplitl [S0]; · iexact S0
  isplitl [S1]; · iexact S1
  isplitl [S2] <;> iassumption

/-- All streams' starts. -/
theorem pres_intro (c : Dev nD) :
    iprop(recs X Wt κ ι ∗ all4 (fun k => iprop(Dut c k 0 ∗ Giv c k 0 ∗ Wrt c k)) ∗ all4 (perK (fun q => atPos ER (cellC (c, q)) 0 ∅ 0))
        ∗ all4 (fun k => iprop(Rcv c k 0 ∗ Cre c k)) ∗ slots c)
      ⊢ iprop(all4 (Pre' c) ∗ all4 (Tg2 c)) := by
  unfold slots
  rw [← bigSep_fin4, ← bigSep_fin4, ← bigSep_fin4, ← bigSep_fin4, ← bigSep_fin4, ← bigSep_fin4, ← bigSep_sep', ← bigSep_sep', ← bigSep_sep', ← bigSep_sep']
  refine (sep_mono_left (BI.bigSep_of_persistent (Finset.univ : Finset (Fin 4)) (recs X Wt κ ι))).trans ?_
  rw [← bigSep_sep']
  exact bigSep_mono fun k _ => pre_intro X Wt κ ι c k

/-- Nothing is owed at the end. -/
theorem Ow_last (c : Dev nD) : Ow (fun _ => 15) (fun _ => 14) c = 0 := by
  unfold Ow recvOwe credOwe
  simp

/-- The whole body. -/
theorem core_run (c : Dev nD) (f g : Vec F S1 .f32) (Q : PUnit → sProp 𝕄) :
    iprop(recs X Wt κ ι ∗ (∃ W, owes (c : Thread nD τ) (O₀ c) W) ∗ Lin c ∗ Crds c ∗ slots c
        ∗ (((c : Thread nD τ).loc cc0_stg0_0) ↦{fullShare} X c) ∗ (((c : Thread nD τ).loc cc0_stg1_0) ↦{fullShare} Wt c)
        ∗ (((c : Thread nD τ).loc cc0_stg2_0) ↦{fullShare} f) ∗ (((c : Thread nD τ).loc cc0_stg3_0) ↦{fullShare} g)
        ∗ (∃ o, ((c : Thread nD τ).loc cc0_stg4_0) ↦{fullShare} o)
        ∗ (∃ o, ((c : Thread nD τ).loc cc0_scratch1) ↦{fullShare} o) ∗ (∃ o, ((c : Thread nD τ).loc cc0_scratch2) ↦{fullShare} o))
      ⊢ iprop((((∃ W, owes (c : Thread nD τ) (0 : CellTallies nD τ sig ℕ) W) ∗ ((bigSep Finset.univ fun q : Option Ok => semVal (cellC (c, q)) 0) ∗ slots c)
        ∗ (((c : Thread nD τ).loc cc0_stg0_0) ↦{fullShare} X c) ∗ (((c : Thread nD τ).loc cc0_stg1_0) ↦{fullShare} Wt c)
        ∗ (((c : Thread nD τ).loc cc0_stg2_0) ↦{fullShare} f) ∗ (((c : Thread nD τ).loc cc0_stg3_0) ↦{fullShare} g)
        ∗ (((c : Thread nD τ).loc cc0_stg4_0) ↦{fullShare} outF X Wt (alphaOf f g) c)
        ∗ (∃ o, ((c : Thread nD τ).loc cc0_scratch1) ↦{fullShare} o) ∗ (∃ o, ((c : Thread nD τ).loc cc0_scratch2) ↦{fullShare} o)) -∗ Q ⟨⟩)
        -∗ WP c body Q) := by
  unfold Lin Crds posn
  rw [cells_split (fun q : Option Ok => (atPos ER (cellC (c, q)) 0 ∅ 0 : sProp 𝕄))]
  unfold body Prog.lift
  simp only [wp_bind]
  iintro ⟨#HR, HO, ⟨⟨HtL, HtR⟩, HL, Hb, Hp⟩, ⟨HcB, Hcr⟩, HS, Hx, Hw, Hsx, Hsw, ⟨%o, Ho⟩, Hc, Ht⟩ Hk
  rw [wp_deviceId, wp_ret]; imodintro
  ihave HP := (pres_intro X Wt κ ι c) $$ [HL Hp Hcr HS]
  · isplitr; · iexact HR
    isplitl [HL]; · iexact HL
    isplitl [Hp]; · iexact Hp
    isplitl [Hcr] <;> iassumption
  icases HP with ⟨HP, HT⟩
  unfold all4
  icases HT with ⟨T0, T1, T2, T3⟩
  iapply (bar_step X Wt κ ι c _) $$ [HO HtL HtR T0 T1 T2 T3 HcB Hb]
  · isplitr; · iexact HR
    isplitl [HO]; · iexact HO
    isplitl [HtL]; · iexact HtL
    isplitl [HtR]; · iexact HtR
    isplitl [T0]; · iexact T0
    isplitl [T1]; · iexact T1
    isplitl [T2]; · iexact T2
    isplitl [T3]; · iexact T3
    isplitl [HcB]; · iexact HcB
    iexact Hb
  iintro ⟨HO, Hb, T0, T1, T2, T3⟩
  iapply (cast_step Wt c _) $$ [Hw Hc]
  · isplitl [Hw] <;> iassumption
  iintro ⟨Hw, Hc⟩
  iapply (scale_step c f g _) $$ [Hsx Hsw]
  · isplitl [Hsx] <;> iassumption
  iintro ⟨Hsx, Hsw⟩
  iapply (inits_step X Wt κ ι c _) $$ [HO HP Hx Hc T0 T1 T2 T3]
  · isplitr; · iexact HR
    isplitl [Hx Hc]; · unfold memIs; isplitl [Hx] <;> iassumption
    isplitl [HO]; · iexact HO
    iapply (show iprop(all4 (Pre' c) ∗ (Tg2 (outD 0 c) 0 ∗ Tg2 (outD 1 c) 1 ∗ Tg2 (outD 2 c) 2 ∗ Tg2 (outD 3 c) 3)) ⊢ all4 (Pre (F := F) c) from by
      have e : (iprop(Tg2 (outD 0 c) 0 ∗ Tg2 (outD 1 c) 1 ∗ Tg2 (outD 2 c) 2 ∗ Tg2 (outD 3 c) 3) : sProp 𝕄) = all4 (fun k => Tg2 (outD k c) k) := rfl
      rw [e, ← bigSep_fin4, ← bigSep_fin4, ← bigSep_fin4, ← bigSep_sep']
      exact bigSep_mono fun k _ => pre_join c k)
    isplitl [HP]; · unfold all4; iexact HP
    isplitl [T0]; · iexact T0
    isplitl [T1]; · iexact T1
    isplitl [T2]; · iexact T2
    iexact T3
  iintro ⟨Hm, HO, HA⟩
  iapply (hopsFrom_step X Wt κ ι c 14 0 rfl _) $$ [Hm Ht HO HA]
  · isplitr; · iexact HR
    isplitl [Hm]; · iexact Hm
    isplitl [Ht]; · iexact Ht
    isplitl [HO]; · iexact HO
    iexact HA
  unfold memIs
  iintro ⟨⟨Hx, Hc⟩, Ht, HO, HA⟩
  iapply (dots_step X Wt c 14 _) $$ [Hx Hc Ht]
  · isplitl [Hx]; · iexact Hx
    isplitl [Hc] <;> iassumption
  iintro ⟨Hx, Hc, Ht⟩
  iapply (lasts_step X Wt κ ι c (alphaOf f g) o _) $$ [Ht Ho HO HA]
  · isplitr; · iexact HR
    isplitl [Ht]; · unfold tmpIs; iexact Ht
    isplitl [Ho]; · iexact Ho
    isplitl [HO] <;> iassumption
  iintro ⟨Ht, Ho, HO, HA⟩
  iapply (wp_fupd _ _ _ _)
  iapply (ends_step X Wt κ ι c (fun _ => 15) (fun _ => 14) _) $$ [HO HA]
  · isplitr; · iexact HR
    isplitl [HO] <;> iassumption
  iintro ⟨HO, HA⟩
  imod (fins_close X Wt κ ι c) $$ [Hb HA] with HZ
  · isplitr; · iexact HR
    isplitl [Hb] <;> iassumption
  imodintro
  iapply Hk
  isplitl [HO]
  · unfold owe; rw [Ow_last]; iexact HO
  isplitl [HZ]; · iexact HZ
  isplitl [Hx]; · iexact Hx
  isplitl [Hw]; · iexact Hw
  isplitl [Hsx]; · iexact Hsx
  isplitl [Hsw]; · iexact Hsw
  isplitl [Ho]; · iexact Ho
  isplitl [Hc]; · iexists _; iexact Hc
  iexists _; unfold tmpIs; iexact Ht

end Run

end Cert.KernelIdeal.Hand
-- ==== Proof.Deal.lean ====
/- The launch's ghost state: which tokens are made, and how they are dealt to the devices that use them. -/
module

public import proofs.«01_k».proof.Proof.Body

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

/-! ### The cells and the tokens -/

/-- The semaphores of the cells are different. -/
theorem csem_injective : Function.Injective csem := by
  intro a b h
  have h' := congrArg kindOf h
  rcases a with _ | ⟨k, s⟩ | ⟨k, s⟩ | k <;> rcases b with _ | ⟨k', s'⟩ | ⟨k', s'⟩ | k' <;>
    simp only [csem, osem, kind_bar, kind_send, kind_recv, kind_cred, Kd.send.injEq, Kd.recv.injEq, Kd.cred.injEq, reduceCtorEq] at h' <;>
    first | rfl | (obtain ⟨rfl, rfl⟩ := h'; rfl) | (subst h'; rfl)
/-- The cells are different. -/
theorem cellC_injective : Function.Injective cellC := by
  rintro ⟨c, q⟩ ⟨c', q'⟩ h
  have h1 : c = c' := congrArg (fun g : GSem nD τ sig => g.1.1) h
  have h2 : q = q' := csem_injective (congrArg Prod.snd h)
  rw [h1, h2]
/-- All cells of the protocol. -/
def ourCells : Finset (GSem nD τ sig) := Finset.univ.map ⟨cellC, cellC_injective⟩

/-- The payments into one device's cells: two at the barrier, then one per copy sent, per copy received, and per credit. -/
abbrev Tk : Type := Fin 2 ⊕ (Fin 4 × Fin 15) ⊕ (Fin 4 × Fin 15) ⊕ (Fin 4 × Fin 13)
/-- A payment's cell, round and duty. -/
def tokOf (p : Dev nD × Tk) : GSem nD τ sig × ℕ × ℕ :=
  match p.2 with
  | .inl i => (barC p.1, 0, i.val)
  | .inr (.inl q) => (sendC p.1 q.1 (sl q.2.val), q.2.val / 3, 0)
  | .inr (.inr (.inl q)) => (recvC p.1 q.1 (sl (q.2.val + 1)), q.2.val / 3, 0)
  | .inr (.inr (.inr q)) => (credC p.1 q.1, 0, q.2.val)

/-- A copy's number is known from its slot and its round. -/
theorem copy_eq {j j' : ℕ} (hs : sl j = sl j') (hr : j / 3 = j' / 3) : j = j' := by
  have : j % 3 = j' % 3 := congrArg Fin.val hs
  omega
/-- A copy's number is known from its target slot and its round. -/
theorem copy_eq' {j j' : ℕ} (hs : sl (j + 1) = sl (j' + 1)) (hr : j / 3 = j' / 3) : j = j' := by
  have : (j + 1) % 3 = (j' + 1) % 3 := congrArg Fin.val hs
  omega

/-- Different payments have different tokens. -/
theorem tokOf_injective : Function.Injective tokOf := by
  rintro ⟨c, t⟩ ⟨c', t'⟩ h
  have hc : c = c' := by
    have := congrArg (fun x : GSem nD τ sig × ℕ × ℕ => x.1.1.1) h
    rcases t with _ | _ | _ | _ <;> rcases t' with _ | _ | _ | _ <;> exact this
  have h1 := congrArg (fun x : GSem nD τ sig × ℕ × ℕ => kindOf x.1.2) h
  have h2 := congrArg (fun x : GSem nD τ sig × ℕ × ℕ => x.2) h
  subst hc
  rcases t with i | ⟨k, j⟩ | ⟨k, j⟩ | ⟨k, j⟩ <;> rcases t' with i' | ⟨k', j'⟩ | ⟨k', j'⟩ | ⟨k', j'⟩ <;>
    simp only [tokOf, kind_bar, kind_send, kind_recv, kind_cred, Kd.send.injEq, Kd.recv.injEq, Kd.cred.injEq, reduceCtorEq, Prod.mk.injEq, true_and, and_true] at h1 h2
  · rw [Fin.ext h2]
  · obtain ⟨rfl, h1⟩ := h1; rw [Fin.ext (copy_eq h1 h2)]
  · obtain ⟨rfl, h1⟩ := h1; rw [Fin.ext (copy_eq' h1 h2)]
  · subst h1; rw [Fin.ext h2]
/-- All tokens of the protocol. -/
def ourToks : Finset (GSem nD τ sig × ℕ × ℕ) := Finset.univ.map ⟨tokOf, tokOf_injective⟩

/-- The launch's ghost state: the pipeline's, the rounds' and the slots'. -/
def u₀ : UU :=
  (initOf (Pipeline.cells cfgs cellOf_inj) (Pipeline.launchToks cfgs cellOf_inj), (initOf ourCells ourToks, initSlots keys 1))

/-! ### Dealing -/

omit [FloatOps F] in
/-- Over the first `n` numbers. -/
theorem bigSep_fin (n : ℕ) (Φ : ℕ → sProp 𝕄) : (bigSep Finset.univ fun j : Fin n => Φ j.val) = bigSep (Finset.Ico 0 n) Φ := by
  have e : (Finset.univ.map (Fin.valEmbedding (n := n))) = Finset.Ico 0 n := by
    ext x
    rw [Finset.mem_map, Finset.mem_Ico]
    exact ⟨fun ⟨j, _, h⟩ => ⟨Nat.zero_le _, h ▸ j.isLt⟩, fun h => ⟨⟨x, h.2⟩, Finset.mem_univ _, rfl⟩⟩
  rw [← e, bigSep_map]; rfl
/-- Going on along a stream. -/
def along (k : Fin 4) : Dev nD ≃ Dev nD := ⟨outD k, inD k, inD_outD k, outD_inD k⟩
/-- The ring. -/
def ringE : Dev nD ≃ Dev nD := ⟨rgt, lft, lft_rgt, rgt_lft⟩

omit [FloatOps F] in
/-- What all devices hold stream by stream, each stream's shifted along it. -/
theorem deal_out (Φ : Dev nD → Fin 4 → sProp 𝕄) : (bigSep Finset.univ fun c => bigSep Finset.univ fun k => Φ c k)
    = bigSep Finset.univ fun c => bigSep Finset.univ fun k => Φ (outD k c) k := by
  rw [bigSep_univ_comm, bigSep_univ_comm (fun c k => Φ (outD k c) k)]
  exact bigSep_congr fun k _ => bigSep_univ_equiv (along k) (fun c => Φ c k)
omit [FloatOps F] in
/-- The same, the other way. -/
theorem deal_in (Φ : Dev nD → Fin 4 → sProp 𝕄) : (bigSep Finset.univ fun c => bigSep Finset.univ fun k => Φ c k)
    = bigSep Finset.univ fun c => bigSep Finset.univ fun k => Φ (inD k c) k := by
  rw [bigSep_univ_comm, bigSep_univ_comm (fun c k => Φ (inD k c) k)]
  exact bigSep_congr fun k _ => bigSep_univ_equiv (along k).symm (fun c => Φ c k)

/-- The tokens of one device's cells. -/
def toks (c : Dev nD) : sProp 𝕄 := bigSep Finset.univ fun t : Tk => dutyTok ER (tokOf (c, t)).1 (tokOf (c, t)).2.1 (tokOf (c, t)).2.2

omit [FloatOps F] in
/-- The tokens of one device's cells, kind by kind. -/
theorem toks_eq (c : Dev nD) : toks (F := F) c = iprop((dutyTok ER (barC c) 0 0 ∗ dutyTok ER (barC c) 0 1)
    ∗ (bigSep Finset.univ fun k => bigSep (Finset.Ico 0 15) fun j => dutyTok ER (sendC c k (sl j)) (j / 3) 0)
    ∗ (bigSep Finset.univ fun k => bigSep (Finset.Ico 0 15) fun j => dutyTok ER (recvC c k (sl (j + 1))) (j / 3) 0)
    ∗ (bigSep Finset.univ fun k => bigSep (Finset.Ico 0 13) fun j => dutyTok ER (credC c k) 0 j)) := by
  unfold toks
  rw [bigSep_univ_sum, bigSep_univ_sum, bigSep_univ_sum, bigSep_univ_prod, bigSep_univ_prod, bigSep_univ_prod]
  rw [bigSep_univ_eq_bigSepL [0, 1] (by decide) (by decide)]
  simp only [← bigSep_fin]
  rfl

omit [FloatOps F] in
/-- What all devices get at the start, kind by kind. -/
theorem Lin_all : (bigSep Finset.univ fun c => Lin (F := F) c)
    = iprop(((bigSep Finset.univ fun c => dutyTok ER (barC (lft c)) 0 0) ∗ (bigSep Finset.univ fun c => dutyTok ER (barC (rgt c)) 0 1))
      ∗ (((bigSep Finset.univ fun c => bigSep Finset.univ fun k => bigSep (Finset.Ico 0 15) fun j => dutyTok ER (sendC c k (sl j)) (j / 3) 0)
          ∗ (bigSep Finset.univ fun c => bigSep Finset.univ fun k => bigSep (Finset.Ico 0 15) fun j => dutyTok ER (recvC (outD k c) k (sl (j + 1))) (j / 3) 0))
        ∗ ((bigSep Finset.univ fun c => bigSep Finset.univ fun k => bigSep (Finset.Ico 0 13) fun j => readerAt ES (c, k, j) 0)
          ∗ (bigSep Finset.univ fun c => bigSep Finset.univ fun k => bigSep (Finset.Ico 0 13) fun j => dutyTok ER (credC (inD k c) k) 0 j))
        ∗ (bigSep Finset.univ fun c => bigSep Finset.univ fun k => bigSep (Finset.Ico 0 13) fun j => writeTok ES (outD k c, k, j) 1))
      ∗ bigSep Finset.univ fun c => posn (F := F) c) := by
  simp only [Lin, ← bigSep_fin4, Dut, Giv, Wrt, bigSep_sep']

/-- A slot given back, its copy's number bounded. -/
def keyE : Dev nD × Fin 4 × Fin 13 ↪ Key :=
  ⟨fun x => (x.1, x.2.1, x.2.2.val), fun a b h => Prod.ext (congrArg (fun x : Key => x.1) h)
    (Prod.ext (congrArg (fun x : Key => x.2.1) h) (Fin.ext (congrArg (fun x : Key => x.2.2) h)))⟩
/-- All slots given back. -/
theorem keys_eq : keys = Finset.univ.map keyE := by
  ext ⟨c, k, j⟩
  rw [Finset.mem_map]
  constructor
  · intro h
    have hj := Finset.mem_range.mp (Finset.mem_product.mp (Finset.mem_product.mp h).2).2
    exact ⟨(c, k, ⟨j, hj⟩), Finset.mem_univ _, rfl⟩
  · rintro ⟨x, -, h⟩
    rw [← h]; exact mem_keys _ _ x.2.2.isLt
/-- A slot's one write. -/
def writeE : Key ↪ Key × ℕ := ⟨fun q => (q, 0), fun a b h => congrArg Prod.fst h⟩
/-- All slots' writes. -/
theorem writes_eq : keys ×ˢ Finset.range 1 = keys.map writeE := by
  ext ⟨q, t⟩
  rw [Finset.mem_map, Finset.mem_product, Finset.mem_range]
  constructor
  · rintro ⟨h1, h2⟩
    exact ⟨q, h1, Prod.ext rfl (show 0 = t by dsimp only at h2; omega)⟩
  · rintro ⟨x, h1, h2⟩
    obtain ⟨rfl, rfl⟩ := Prod.mk.inj h2
    exact ⟨h1, Nat.one_pos⟩

omit [FloatOps F] in
/-- Over all slots given back, device by device and stream by stream. -/
theorem over_keys (Φ : Key → sProp 𝕄) : bigSep keys Φ
    = bigSep Finset.univ fun c => bigSep Finset.univ fun k => bigSep (Finset.Ico 0 13) fun j => Φ (c, k, j) := by
  rw [keys_eq, bigSep_map, bigSep_univ_prod]
  refine bigSep_congr fun c _ => ?_
  rw [bigSep_univ_prod]
  exact bigSep_congr fun k _ => bigSep_fin 13 fun j => Φ (c, k, j)
omit [FloatOps F] in
/-- One write's tokens. -/
theorem over_writes : bigSep (keys ×ˢ Finset.range 1) (fun x => (writeTok ES x.1 (x.2 + 1) : sProp 𝕄)) = bigSep keys fun q => writeTok ES q 1 := by
  rw [writes_eq, bigSep_map]; rfl

omit [FloatOps F] in
/-- The tokens, the slots' tokens and the positions, dealt. -/
theorem deal : iprop((bigSep Finset.univ fun c => toks (F := F) c) ∗ (bigSep Finset.univ fun c => posn (F := F) c)
      ∗ bigSep keys (fun q => readerAt ES q 0) ∗ bigSep (keys ×ˢ Finset.range 1) (fun x => writeTok ES x.1 (x.2 + 1)))
    ⊢ (bigSep Finset.univ fun c => Lin (F := F) c) := by
  rw [Lin_all, over_writes, over_keys, over_keys, deal_out (fun c k => bigSep (Finset.Ico 0 13) fun j => writeTok ES (c, k, j) 1)]
  simp only [toks_eq, bigSep_sep']
  rw [deal_out (fun c k => bigSep (Finset.Ico 0 15) fun j => dutyTok ER (recvC c k (sl (j + 1))) (j / 3) 0),
    deal_in (fun c k => bigSep (Finset.Ico 0 13) fun j => dutyTok ER (credC c k) 0 j),
    bigSep_univ_equiv ringE.symm (fun c => (dutyTok ER (barC c) 0 0 : sProp 𝕄)), bigSep_univ_equiv ringE (fun c => (dutyTok ER (barC c) 0 1 : sProp 𝕄))]
  iintro ⟨⟨⟨B0, B1⟩, S, R, C⟩, P, Rd, W⟩
  isplitl [B0 B1]
  · isplitl [B0]; · iexact B0
    iexact B1
  isplitr [P]
  · isplitl [S R]
    · isplitl [S] <;> iassumption
    isplitl [Rd C]
    · isplitl [Rd] <;> iassumption
    iexact W
  iexact P

/-! ### What the launch gives and what is made of it -/

section Launch

variable (X : Dev nD → Vec F S4096x256 .i8) (Wt : Dev nD → Vec F S256x2048 .i8)

/-- The slots' state, with one device. -/
def slotsEl (c : Dev nD) : sProp 𝕄 := if c = 0 then BI.own (ES (initSlots keys 1)) else iprop(emp)

/-- What the launch deals device `c`. -/
def G (c : Dev nD) : sProp 𝕄 :=
  iprop((bigSep Finset.univ fun q : Option Ok => roundState ER (rd X Wt) (cellC (c, q)) 0)
    ∗ (posn c ∗ bigSep Finset.univ fun q : Option Ok => reached ER (cellC (c, q)) 0) ∗ toks c ∗ slotsEl c)

/-- What every device knows but for the order of the waits. -/
def recs₀ (κ : Dev nD × Option Ok → ℕ) (ι : Key → ℕ) : sProp 𝕄 :=
  iprop(bigSep Finset.univ (fun p => cellInv ER (rd X Wt) (κ p) (cellC p))
    ∗ bigSep keys (fun q => slotInv ES (ι q) q (Tg q.1 q.2.1 (q.2.2 + 2)))
    ∗ bigSep Finset.univ (fun p => reached ER (cellC p) 0))

instance recs₀_persistent (κ : Dev nD × Option Ok → ℕ) (ι : Key → ℕ) : BI.Persistent (recs₀ X Wt κ ι) := by unfold recs₀; infer_instance

/-- What the launch's first step makes of it. -/
def G' (c : Dev nD) : sProp 𝕄 := iprop(∃ κ ι, recs₀ X Wt κ ι ∗ Lin c)

omit [FloatOps F] in
/-- One device holds the slots' state. -/
theorem slotsEl_intro : BI.own (ES (initSlots keys 1)) ⊢ (bigSep Finset.univ fun c => slotsEl (F := F) c) := by
  rw [bigSep_univ_at _ (0 : Dev nD)]
  have e : (bigSep (Finset.univ.erase (0 : Dev nD)) fun c => slotsEl (F := F) c) = bigSep (Finset.univ.erase (0 : Dev nD)) fun _ => iprop(emp) :=
    bigSep_congr fun c hc => if_neg (Finset.ne_of_mem_erase hc)
  rw [e, show slotsEl (F := F) 0 = BI.own (ES (initSlots keys 1)) from if_pos rfl]
  iintro H
  isplitl; · iexact H
  iapply (BI.bigSep_of_persistent (Finset.univ.erase (0 : Dev nD)) (iprop(emp) : sProp 𝕄))
  iempintro
omit [FloatOps F] in
/-- The slots' state is with one device. -/
theorem slotsEl_elim : (bigSep Finset.univ fun c => slotsEl (F := F) c) ⊢ BI.own (ES (initSlots keys 1)) :=
  (bigSep_elim (Finset.mem_univ (0 : Dev nD))).trans (Entails.of_eq (show slotsEl (F := F) 0 = BI.own (ES (initSlots keys 1)) from if_pos rfl))

/-- The launch's state, funded. -/
theorem fund_all : BI.own (embR (initOf ourCells ourToks, initSlots keys 1)) ⊢ (|==> bigSep Finset.univ (G X Wt) : sProp 𝕄) := by
  have hX (Φ : GSem nD τ sig → sProp 𝕄) : bigSep ourCells Φ = bigSep Finset.univ fun c : Dev nD => bigSep Finset.univ fun q : Option Ok => Φ (cellC (c, q)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks; rw [bigSep_map, bigSep_univ_prod]; rfl
  iintro H
  ihave HX := (own_pair_emb (embR : Emb UX 𝕄) (initOf ourCells ourToks) (initSlots keys 1)) $$ H
  icases HX with ⟨HX, HS⟩
  imod (Rounds.fund ER (rd X Wt) ourCells ourToks) $$ HX with ⟨Hst, Hr, Hat, Htok⟩
  imodintro
  ihave Hst' := (Entails.of_eq (hX fun g => roundState ER (rd X Wt) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := (slotsEl_intro (F := F)) $$ HS
  unfold G posn; simp only [bigSep_sep']
  isplitl [Hst']; · iexact Hst'
  isplitl [Hat' Hr']
  · isplitl [Hat'] <;> iassumption
  isplitl [Htok'] <;> iassumption

omit [FloatOps F] in
/-- The barrier semaphore is the one the runtime holds. -/
theorem unscoped_eq (c : Dev nD) : (unscopedSems0 c : sProp 𝕄) = semVal (barC c) 0 := by
  unfold unscopedSems0; rw [bigSep_eq_bigSepL_of_eq [SemLoc.reg barQ] (by decide) (by decide)]; rfl
omit [FloatOps F] in
/-- All cells' counters at zero. -/
theorem sems_eq (c : Dev nD) : (bigSep Finset.univ fun q : Option Ok => (semVal (cellC (c, q)) 0 : sProp 𝕄))
    = iprop(unscopedSems0 c ∗ Pipeline.ownSems0 (Ix := ℕ) (Name := ℕ) (U := UU) (Lvl := ℕ) (Val := Elt F) (τ := τ) osem c) := by
  rw [unscoped_eq, bigSep_cells]; rfl

/-- One device's cells, set up. -/
theorem core_alloc (c : Dev nD) :
    iprop(Pipeline.ownSems0 (Ix := ℕ) (Name := ℕ) (U := UU) (Lvl := ℕ) (Val := Elt F) (τ := τ) osem c ∗ unscopedSems0 c ∗ G X Wt c)
      ⊢ |={Set.univ}=> iprop((bigSep Finset.univ fun q => iprop(∃ κ : ℕ, cellInv ER (rd X Wt) κ (cellC (c, q))))
          ∗ (posn c ∗ bigSep Finset.univ fun q : Option Ok => reached ER (cellC (c, q)) 0) ∗ toks c ∗ slotsEl c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun q : Option Ok => semVal (cellC (c, q)) 0) ∗ bigSep Finset.univ fun q : Option Ok => roundState ER (rd X Wt) (cellC (c, q)) 0)
      ⊢ (|={Set.univ}=> bigSep Finset.univ fun q => iprop(∃ κ : ℕ, cellInv ER (rd X Wt) κ (cellC (c, q))) : sProp 𝕄) from by
        rw [← bigSep_sep']
        exact (bigSep_mono fun q _ => (Rounds.body_intro ER (rd X Wt) (cellC (c, q))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A persistent fact given to each of many. -/
theorem give_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- One device's share. -/
theorem G'_intro (κ : Dev nD × Option Ok → ℕ) (ι : Key → ℕ) (c : Dev nD) : iprop(recs₀ X Wt κ ι ∗ Lin c) ⊢ G' X Wt c := by
  unfold G'
  iintro H; iexists κ; iexists ι; iexact H

/-- All devices' cells and slots, set up and dealt. -/
theorem regroup :
    (bigSep Finset.univ fun c : Dev nD => iprop((bigSep Finset.univ fun q => iprop(∃ κ : ℕ, cellInv ER (rd X Wt) κ (cellC (c, q))))
          ∗ (posn c ∗ bigSep Finset.univ fun q : Option Ok => reached ER (cellC (c, q)) 0) ∗ toks c ∗ slotsEl c) : sProp 𝕄)
      ⊢ |={Set.univ}=> bigSep Finset.univ (G' X Wt) := by
  simp only [bigSep_sep']
  rw [← bigSep_univ_prod (fun p : Dev nD × Option Ok => iprop(∃ κ : ℕ, cellInv ER (rd X Wt) κ (cellC p))),
    ← bigSep_univ_prod (fun p : Dev nD × Option Ok => (reached ER (cellC p) 0 : sProp 𝕄))]
  iintro ⟨HI, ⟨Hat, #HR⟩, Htok, HS⟩
  ihave HK := (BI.bigSep_exists_pi Finset.univ (fun (p : Dev nD × Option Ok) (κ : ℕ) => (cellInv ER (rd X Wt) κ (cellC p) : sProp 𝕄))) $$ HI
  icases HK with ⟨%κ, #HI⟩
  ihave HS' := (slotsEl_elim (F := F)) $$ HS
  imod (slots_init ES keys 1 (fun q => Tg (F := F) q.1 q.2.1 (q.2.2 + 2))) $$ HS' with ⟨%ι, -, #Hsl, Hrd, Hwt⟩
  imodintro
  iapply (give_all (R := recs₀ X Wt κ ι) fun c _ => G'_intro X Wt κ ι c)
  isplitr
  · unfold recs₀
    isplitl; · iexact HI
    isplitl; · iexact Hsl
    iexact HR
  iapply (deal (F := F))
  isplitl [Htok]; · iexact Htok
  isplitl [Hat]; · iexact Hat
  isplitl [Hrd] <;> iassumption

/-- The launch's first step, all devices at once. -/
theorem glob : (bigSep Finset.univ fun c => iprop(Pipeline.ownSems0 (Ix := ℕ) (Name := ℕ) (U := UU) (Lvl := ℕ) (Val := Elt F) (τ := τ) osem c ∗ unscopedSems0 c ∗ G X Wt c) : sProp 𝕄)
    ⊢ |={Set.univ}=> bigSep Finset.univ (G' X Wt) :=
  ((bigSep_mono fun c _ => core_alloc X Wt c).trans (bigSep_fupd _ _)).trans ((BI.fupd_mono (regroup X Wt)).trans fupd_trans)

end Launch

/-! ### The credit the launch gives -/

omit [FloatOps F] in
/-- A stream's credit: its copies and its slots. -/
theorem creds_stream (c : Dev nD) (k : Fin 4) :
    (Pipeline.launchCred (fun d => recvOwe d k 0 + credOwe d k 0) c : sProp 𝕄) ⊢ iprop(Rcv c k 0 ∗ Cre c k) := by
  rw [Pipeline.launchCred_add (fun d => recvOwe d k 0) (fun d => credOwe d k 0) c]
  unfold recvOwe credOwe Rcv Cre
  rw [Pipeline.launchCred_sum (Finset.Ico 0 15) (fun j d => tallyAt (recvC (outD k d) k (sl (j + 1))) j N) c,
    Pipeline.launchCred_sum (Finset.Ico 0 13) (fun j d => tallyAt (credC (inD k d) k) j 1) c]
  exact BI.sep_mono (bigSep_mono fun j _ => Pipeline.launchCred_tallyAt _ (outD k) (inD k) (outD_inD k) (inD_outD k) j N c)
    (bigSep_mono fun j _ => Pipeline.launchCred_tallyAt _ (inD k) (outD k) (inD_outD k) (outD_inD k) j 1 c)

omit [FloatOps F] in
/-- A device's credit at the start. -/
theorem creds (c : Dev nD) : (Pipeline.launchCred O₀ c : sProp 𝕄) ⊢ Crds c := by
  have e : (O₀ : Dev nD → CellTallies nD τ sig ℕ)
      = fun d => ((∑ k, (recvOwe d k 0 + credOwe d k 0)) + tallyAt (barC (rgt d)) 0 1) + tallyAt (barC (lft d)) 0 1 := rfl
  rw [e, Pipeline.launchCred_add (fun d => (∑ k, (recvOwe d k 0 + credOwe d k 0)) + tallyAt (barC (rgt d)) 0 1) (fun d => tallyAt (barC (lft d)) 0 1) c,
    Pipeline.launchCred_add (fun d => ∑ k, (recvOwe d k 0 + credOwe d k 0)) (fun d => tallyAt (barC (rgt d)) 0 1) c,
    Pipeline.launchCred_sum Finset.univ (fun k d => recvOwe d k 0 + credOwe d k 0) c]
  unfold Crds
  rw [← bigSep_fin4, show (tallyAt (barC c) 0 2 : CellTallies nD τ sig ℕ) = tallyAt (barC c) 0 1 + tallyAt (barC c) 0 1 from (tallyAt_add _ _ 1 1).symm]
  have h1 : (bigSep (Finset.univ : Finset (Fin 4)) fun k => Pipeline.launchCred (fun d => recvOwe d k 0 + credOwe d k 0) c)
      ⊢ (bigSep Finset.univ fun k => iprop(Rcv (F := F) c k 0 ∗ Cre c k)) := bigSep_mono fun k _ => creds_stream (F := F) c k
  have h2 := Pipeline.launchCred_tallyAt (Val := Elt F) (Name := ℕ) (U := UU) (Lvl := ℕ) (τ := τ) (sig := sig) (.reg barQ) rgt lft rgt_lft lft_rgt 0 1 c
  have h3 := Pipeline.launchCred_tallyAt (Val := Elt F) (Name := ℕ) (U := UU) (Lvl := ℕ) (τ := τ) (sig := sig) (.reg barQ) lft rgt lft_rgt rgt_lft 0 1 c
  iintro ⟨⟨HK, HR⟩, HL⟩
  isplitl [HR HL]
  · iapply (cred_add _ _).2
    isplitl [HR]
    · iapply h2; iexact HR
    · iapply h3; iexact HL
  · iapply h1; iexact HK

end Cert.KernelIdeal.Hand
-- ==== Proof.BodyEq.lean ====
/- The printed body is the structured one. -/
module

public import proofs.«01_k».proof.Proof.Prog

@[expose] public section

noncomputable section

namespace Cert.KernelIdeal.Hand

open Cert.KernelIdeal Cert.KernelIdeal.Gen
open Idealize.ShloMosaic Idealize.SL.Sem

variable {F : FTy → Type} [FloatOps F]

/-- The printed body, at the buffers the launch passes, is the structured body. -/
theorem body_eq : cc0_body (F := F) xM (Memref.isWhole_whole _) wM (Memref.isWhole_whole _) sxM (Memref.isWhole_whole _) swM (Memref.isWhole_whole _)
    oM (Memref.isWhole_whole _) bM (Memref.isWhole_whole _) cM (Memref.isWhole_whole _) tM (Memref.isWhole_whole _) cc0_scratch3 cc0_scratch4 cc0_scratch5
    = body := by
  chain_rfl

end Cert.KernelIdeal.Hand
-- ==== Proof.Launch.lean ====
/- The launch: from the memory at the start to the result's contents on every device. -/
module

public import proofs.«01_k».proof.Proof.Deal
public import proofs.«01_k».proof.Proof.BodyEq
public import Idealize.ShloMosaic.Lib.Pipeline.CollectiveSegs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The state at the start: the memory, every counter at zero. -/
def s₀ : MemSt nD τ sig (Elt F) := ⟨m, fun _ => 0, ρ⟩

/-- A device's columns of `x`. -/
def inX (c : Dev nD) : Vec F S4096x256 .i8 := (win0_0.blk (0 : Fin 1)).view.read (Elt F) ((s₀ m ρ).mem ((c : Thread nD τ).loc main_arg0))
/-- A device's rows of the weights. -/
def inW (c : Dev nD) : Vec F S256x2048 .i8 := (win0_1.blk (0 : Fin 1)).view.read (Elt F) ((s₀ m ρ).mem ((c : Thread nD τ).loc main_arg1))
/-- The first scale. -/
def inA (c : Dev nD) : Vec F S1 .f32 := (win0_2.blk (0 : Fin 1)).view.read (Elt F) ((s₀ m ρ).mem ((c : Thread nD τ).loc main_arg2))
/-- The second scale. -/
def inB (c : Dev nD) : Vec F S1 .f32 := (win0_3.blk (0 : Fin 1)).view.read (Elt F) ((s₀ m ρ).mem ((c : Thread nD τ).loc main_arg3))
/-- A device's rows of the result. -/
def outV (c : Dev nD) : Vec F S256x2048 .f32 := outF (inX m ρ) (inW m ρ) (alphaOf (inA m ρ c) (inB m ρ c)) c

/-- The single point of the grid. -/
def t₀ : Fin cfg0.N := ⟨0, by rw [show cfg0.N = 1 from N_0]; decide⟩
/-- There is one point. -/
theorem fin_N (t : Fin cfg0.N) : t = t₀ := by
  obtain ⟨t, ht⟩ := t; have : cfg0.N = 1 := N_0; exact Fin.ext (by simp only [t₀]; omega)

/-- What a device starts from. -/
def start (c : Dev nD) : sProp 𝕄 := iprop((∃ κ ι, recs (inX m ρ) (inW m ρ) κ ι ∗ Lin c) ∗ Crds c)
/-- A device before its body. -/
def Φ₀ (c : Dev nD) : sProp 𝕄 := iprop(start m ρ c ∗ slots c
    ∗ (∃ o, ((c : Thread nD τ).loc cc0_scratch1) ↦{fullShare} o) ∗ (∃ o, ((c : Thread nD τ).loc cc0_scratch2) ↦{fullShare} o))
/-- A device after its body: every counter at zero, and its buffers. -/
def Φ₁ (c : Dev nD) : sProp 𝕄 := iprop((bigSep Finset.univ fun q : Option Ok => semVal (cellC (c, q)) 0) ∗ slots c
    ∗ (∃ o, ((c : Thread nD τ).loc cc0_scratch1) ↦{fullShare} o) ∗ (∃ o, ((c : Thread nD τ).loc cc0_scratch2) ↦{fullShare} o))

/-- The launch's data. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => inX m ρ c
    | ⟨1, _⟩ => inW m ρ c
    | ⟨2, _⟩ => inA m ρ c
    | ⟨3, _⟩ => inB m ρ c
    | ⟨4, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- The five windows. -/
theorem bigSep_W (Φ : Fin cfg0.W → sProp 𝕄) : bigSep Finset.univ Φ
    = iprop(Φ (0 : Fin 5) ∗ Φ (1 : Fin 5) ∗ Φ (2 : Fin 5) ∗ Φ (3 : Fin 5) ∗ Φ (4 : Fin 5)) := bigSep_W0 Φ
/-- The inputs are fetched. -/
theorem fetch_in (w : Fin 5) (hw : w ≠ 4) (t : Fin cfg0.N) : (cfg0.win w).fetch t = true := by
  rw [fin_N t]; fin_cases w
  all_goals first | rfl | exact absurd rfl hw

omit [FloatOps F] in
/-- A whole staging buffer. -/
theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer holding `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the body starts from. -/
def bodyPre (c : Dev nD) : sProp 𝕄 :=
  iprop(Φ₀ m ρ c ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
/-- What the body ends with. -/
def bodyPost (c : Dev nD) : sProp 𝕄 :=
  iprop(Φ₁ c ∗ (dats m ρ 0 c).owesAt 0 t₀.succ
    ∗ stg c cc0_stg0_0 (inX m ρ c) ∗ stg c cc0_stg1_0 (inW m ρ c) ∗ stg c cc0_stg2_0 (inA m ρ c) ∗ stg c cc0_stg3_0 (inB m ρ c)
    ∗ stg c cc0_stg4_0 (outV m ρ c))

/-- The body, from what the launch gives it to what the launch wants back. -/
theorem sound_body (c : Dev nD) : bodyPre m ρ c ⊢ WP c body (fun _ => bodyPost m ρ c) := by
  have h0 : ∀ d, (dats m ρ 0 c).before (0 : Fin 5) t₀ d = inX m ρ c := fun d => by
    unfold Dat.before; rw [if_pos (fetch_in 0 (by decide) t₀)]; rfl
  have h1 : ∀ d, (dats m ρ 0 c).before (1 : Fin 5) t₀ d = inW m ρ c := fun d => by
    unfold Dat.before; rw [if_pos (fetch_in 1 (by decide) t₀)]; rfl
  have h2 : ∀ d, (dats m ρ 0 c).before (2 : Fin 5) t₀ d = inA m ρ c := fun d => by
    unfold Dat.before; rw [if_pos (fetch_in 2 (by decide) t₀)]; rfl
  have h3 : ∀ d, (dats m ρ 0 c).before (3 : Fin 5) t₀ d = inB m ρ c := fun d => by
    unfold Dat.before; rw [if_pos (fetch_in 3 (by decide) t₀)]; rfl
  unfold bodyPre Φ₀ start
  simp only [h0, h1, h2, h3]
  unfold Dat.owesAt Pipeline.owesWithin
  rw [show (dats m ρ 0 c).owed t₀.castSucc = O₀ c from rfl]
  iintro ⟨⟨⟨⟨%κ, %ι, #HR, HL⟩, Hcr⟩, HS, Hc, Ht⟩, ⟨%W, %hW, HO⟩, ⟨%d0, %f0, %e0, Hx⟩, ⟨%d1, %f1, %e1, Hw⟩, ⟨%d2, %f2, %e2, Ha⟩, ⟨%d3, %f3, %e3, Hb⟩, ⟨%d4, %f4, -, Ho⟩⟩
  subst e0 e1 e2 e3
  iapply (core_run (inX m ρ) (inW m ρ) κ ι c (inA m ρ c) (inB m ρ c) (fun _ => bodyPost m ρ c)) $$ [HL Hcr HS Hc Ht HO Hx Hw Ha Hb Ho]
  · isplitr; · iexact HR
    isplitl [HO]; · iexists W; iexact HO
    isplitl [HL]; · iexact HL
    isplitl [Hcr]; · iexact Hcr
    isplitl [HS]; · iexact HS
    isplitl [Hx]; · iexact Hx
    isplitl [Hw]; · iexact Hw
    isplitl [Ha]; · iexact Ha
    isplitl [Hb]; · iexact Hb
    isplitl [Ho]; · iexists f4; iexact Ho
    isplitl [Hc] <;> iassumption
  iintro ⟨⟨%W', HO⟩, ⟨Hz, HS⟩, Hx, Hw, Ha, Hb, Ho, Hc, Ht⟩
  unfold bodyPost Φ₁ Dat.owesAt Pipeline.owesWithin
  isplitl [Hz HS Hc Ht]
  · isplitl [Hz]; · iexact Hz
    isplitl [HS]; · iexact HS
    isplitl [Hc] <;> iassumption
  isplitl [HO]
  · iexists W'
    isplitr; · ipureintro; exact fun _ _ => Or.inl trivial
    iexact HO
  isplitl [Hx]; · iexists _; isplitr; · ipureintro; rfl
                  iexact Hx
  isplitl [Hw]; · iexists _; isplitr; · ipureintro; rfl
                  iexact Hw
  isplitl [Ha]; · iexists _; isplitr; · ipureintro; rfl
                  iexact Ha
  isplitl [Hb]; · iexists _; isplitr; · ipureintro; rfl
                  iexact Hb
  iexists _; isplitr; · ipureintro; rfl
  iexact Ho

set_option maxRecDepth 100000 in
/-- The launch's obligation for the body. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) wM (Memref.isWhole_whole _) sxM (Memref.isWhole_whole _) swM (Memref.isWhole_whole _)
    oM (Memref.isWhole_whole _) bM (Memref.isWhole_whole _) cM (Memref.isWhole_whole _) tM (Memref.isWhole_whole _) cc0_scratch3 cc0_scratch4 cc0_scratch5) (fun _ => bodyPost m ρ c)
  rw [body_eq]
  exact sound_body m ρ c

/-! ### The launch's side conditions -/

/-- The kernel's own semaphores are the launch's. -/
theorem ownSemFacts : Pipeline.OwnSemFacts cfg0.spec osem := by decide

/-- Every array is held whole. -/
theorem share_eq (c : Dev nD) (w : Fin cfg0.W) : (dats m ρ 0 c).share w = fullShare := by unfold Dat.share; split <;> rfl

/-- A device starts. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inX m ρ) (inW m ρ) c)
      ⊢ |={Set.univ}=> iprop(start m ρ c ∗ emp) := by
  unfold start G' recs₀ recs levs
  iintro ⟨-, Hlev, Hcr, -, ⟨%κ, %ι, ⟨H1, H2, H3⟩, HL⟩⟩
  ihave Hc := (creds (F := F) c) $$ Hcr
  imodintro
  isplitl
  · isplitr [Hc]
    · iexists κ; iexists ι
      isplitr [HL]
      · isplitl [H1]; · iexact H1
        isplitl [H2]; · iexact H2
        isplitl [H3]; · iexact H3
        iexact Hlev
      · iexact HL
    · iexact Hc
  · iempintro

/-- The body's start, from the launch's buffers. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hb⟩, Hc, Ht⟩
  isplitl [Hs]; · iexact Hs
  isplitl [Hb]; · iapply (slots_of c f); iexact Hb
  isplitl [Hc] <;> iassumption

/-- The launch's buffers and counters, from the body's end. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems_eq]
  iintro ⟨⟨Hu, Hz⟩, HS, Hc, Ht⟩
  isplitl [Hu]; · iexact Hu
  isplitl [Hz]; · iexact Hz
  isplitl [HS]; · iapply (of_slots c (m ((c : Thread nD τ).loc cc0_scratch0))); iexact HS
  isplitl [Hc] <;> iassumption

/-- The launch's own waits come below all that is owed. -/
theorem waits (c : Dev nD) : (levAts L lv : sProp 𝕄) ⊢ Pipeline.cellsWaits cfgs (dats m ρ) 0 0 c :=
  Pipeline.cellsWaits_intro cfgs (dats m ρ) 0 0 c fun w s t => by
    have hk : kindOf (.dma ((cfg0.win w).sem s)) = .other := by revert w s; decide
    refine mayWait_of c _ 0 0 _ (by decide) (by unfold lv; rw [show kindOf _ = Kd.other from hk]) ?_
    rcases t with ⟨_ | _, ht⟩
    · exact fun g u h => O₀_above c g u h
    · exact fun g u h => absurd h (Nat.lt_irrefl 0)

/-! ### The run -/

/-- What every device's arrays hold at the end. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 100000 in
/-- Every fair run ends, with the result on every device as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inX m ρ) (inW m ρ)) (G' := G' (inX m ρ) (inW m ρ)) (u₀ := u₀)
    (hu₀ := by
      unfold u₀
      iintro Hu
      ihave H := (ownU_pair _ _) $$ Hu
      icases H with ⟨HP, HX⟩
      imod (fund_all (inX m ρ) (inW m ρ)) $$ HX with HG
      imodintro
      isplitl [HP] <;> iassumption)
    (hglob := glob (inX m ρ) (inW m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hand
-- ==== Proof.Frames.lean ====
/- The programs run without a fault, their arguments keep their contents, and every counter ends at zero. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 100000
set_option maxHeartbeats 4000000

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- What a run leaves in the arguments is what they held. -/
theorem args_kept (m : (ℓ : Loc nD τ sig) → Buf (Elt F) ℓ) (ρ : Dev nD → PrngReg)
    (r : PUnit × MemSt nD τ sig (Elt F)) (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h c (0 : Fin 5)).trans ((dats m ρ 0 c).arrAt_in (0 : Fin 5) rfl _), (h c (1 : Fin 5)).trans ((dats m ρ 0 c).arrAt_in (1 : Fin 5) rfl _),
    (h c (2 : Fin 5)).trans ((dats m ρ 0 c).arrAt_in (2 : Fin 5) rfl _), (h c (3 : Fin 5)).trans ((dats m ρ 0 c).arrAt_in (3 : Fin 5) rfl _)⟩

/-- A run of the kernel over any float values: its arguments keep their contents, every counter ends at zero. -/
theorem frame_any (m : (ℓ : Loc nD τ sig) → Buf (Elt F) ℓ) (ρ : Dev nD → PrngReg) :
    θ_run defs (onTc (τ := τ) (main (F := F))) (s₀ m ρ) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun r h => ⟨fun c => args_kept m ρ r h.1 c, h.2⟩) (run_main m ρ)

/-- The frame of the kernel over the extended reals. -/
theorem frame_kernel_ideal : Cert.quiescent_KernelIdeal := fun m ρ _ => frame_any (F := Ideal) m ρ

/-- The kernel's body is the same in both texts. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl
  | ⟨n + 1, h⟩, _ => exact absurd h (Nat.not_lt.2 (Nat.le_add_left _ _))

/-- So is the table of all bodies. -/
theorem tables_eq : Cert.Kernel.defs (F := Bits) = Cert.KernelIdeal.defs (F := Bits) :=
  congrArg (Pipeline.defs (Cert.KernelIdeal.pcfgs (F := Bits))) bodies_eq

/-- The frame of the kernel as it is: the two texts are the same. -/
theorem frame_kernel : Cert.quiescent_Kernel := by
  intro m ρ _
  rw [tables_eq]
  exact frame_any (F := Bits) m ρ

/-- The frame of the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.KernelIdeal.Hand

end
-- ==== Proof.Value.lean ====
/- What the device's result is, over the extended reals: every element is a sum over all devices of products of the
   devices' columns of `x` and rows of the weights, scaled, through the gate. -/
module

public import proofs.«01_k».proof.Proof.Steps
public import Idealize.ShloMosaic.Lib.Pointwise

@[expose] public section

noncomputable section

namespace Cert.KernelIdeal.Hand

open Cert.KernelIdeal Cert.KernelIdeal.Gen
open Idealize.ShloMosaic
open scoped BigOperators

/-- The value of an eight-bit integer. -/
abbrev num (b : BitVec 8) : EReal := (FloatOps.sitofp .bf16 b : Ideal .bf16)

/-- The first products of a stream, element by element. -/
theorem pay3_at (v : Vec Ideal S256x256 .i8) (w : FVec Ideal S256x512 .bf16) (p : Fin 256) (q : Fin 512) :
    (k0_pay3 v w (ix4 0 0 p q) : EReal) = ∑ x : Fin 256, num (v (ix2 p x)) * w (ix2 x q) := by
  pointwise [k0_pay3]

/-- A hop's products, element by element. -/
theorem pay8_at (v : Vec Ideal S256x256 .i8) (w : FVec Ideal S256x1024 .bf16) (p : Fin 256) (q : Fin 1024) :
    (k0_pay8 v w (ix2 p q) : EReal) = ∑ x : Fin 256, num (v (ix2 p x)) * w (ix2 x q) := by
  pointwise [k0_pay8]

/-- What a hop adds, element by element. -/
theorem pay11_at (a : Vec Ideal S1x1x256x512 .bf16) (t : FVec Ideal S256x512 .f32) (p : Fin 256) (q : Fin 512) :
    (k0_pay11 a t (ix4 0 0 p q) : EReal) = (a (ix4 0 0 p q) : EReal) + t (ix2 p q) := by
  pointwise [k0_pay11]

/-- The cast weights, element by element. -/
theorem pay1_at (v : Vec Ideal S256x2048 .i8) (i : S256x2048.Idx) : (k0_pay1 v i : EReal) = num (v i) := by
  pointwise [k0_pay1]

/-- The gate at one value. -/
def gate (y : EReal) : EReal :=
  Ideal.div y (1 + Ideal.exp (-(min (Ideal.ofBits .f32 0x42700000#32) (max (Ideal.ofBits .f32 0xC2700000#32) y))))

/-- The result, element by element. -/
theorem pay122_at (al : Ideal .f32) (a : Vec Ideal S1x1x256x512 .bf16) (t : FVec Ideal S256x512 .f32) (p : Fin 256) (q : Fin 512) :
    (k0_pay122 al a t (ix2 p q) : EReal) = gate (((a (ix4 0 0 p q) : EReal) + t (ix2 p q)) * al) := by
  pointwise [k0_pay122, gate]
  rw [zero_sub]

section Sums

variable (X : Dev nD → Vec Ideal S4096x256 .i8) (Wt : Dev nD → Vec Ideal S256x2048 .i8)

/-- A device's own product at a row and a column. -/
def own (d : Dev nD) (r : Fin 4096) (j : Fin 2048) : EReal := ∑ x : Fin 256, num (X d (ix2 r x)) * num (Wt d (ix2 x j))

/-- The block of rows a stream carries away from a device at a hop. -/
def blk (k : Fin 4) (d : Dev nD) (h : ℕ) : Fin 16 :=
  bif toRight k then ⟨(d.val + 31 - h) % 16, Nat.mod_lt _ (by decide)⟩ else ⟨(d.val + 33 + h) % 16, Nat.mod_lt _ (by decide)⟩

/-- A row of a block. -/
def rowOf (b : Fin 16) (p : Fin 256) : Fin 4096 := ⟨256 * b.val + p.val, by omega⟩
/-- A column of a stream. -/
def colOf (k : Fin 4) (q : Fin 512) : Fin 2048 := ⟨512 * k.val + q.val, by omega⟩

/-- The streams that go right have the left columns. -/
theorem toRight_iff (k : Fin 4) (q : Fin 512) : toRight k = true ↔ (colOf k q).val < 1024 := by
  show _ ↔ 512 * k.val + q.val < 1024
  have := q.isLt
  fin_cases k <;> simp [toRight] <;> omega

/-- A read of 256 whole rows, element by element. -/
theorem read_rows (f : Vec Ideal S4096x256 .i8) (off : Fin 2 → Nat) (hin : ∀ a, off a + S256x256.size a ≤ S4096x256.size a) (b : ℕ)
    (hb : off = ![b, 0]) (p x : Fin 256) (r : Fin 4096) (hr : r.val = b + p.val) :
    (xM.access (Rect.unit (s := S4096x256) off S256x256.size hin)).read (Elt Ideal) f (ix2 p x) = f (ix2 r x) := by
  refine congrArg f (funext fun a => Fin.ext ?_)
  subst hb
  fin_cases a
  · show b + 1 * p.val = r.val; omega
  · show 0 + 1 * x.val = x.val; omega

/-- The rows a stream starts from. -/
theorem rows0_at (d : Dev nD) (k : Fin 4) (p x : Fin 256) : rows0 X d k (ix2 p x) = X d (ix2 (rowOf (blk k d 0) p) x) := by
  unfold rows0 blk
  cases toRight k
  · refine read_rows (X d) _ _ (256 * ((d.val + 33 + 0) % 16)) ?_ p x _ rfl
    exact k0_off2_eq d
  · refine read_rows (X d) _ _ (256 * ((d.val + 31 - 0) % 16)) ?_ p x _ rfl
    exact k0_off1_eq d

/-- The rows of a hop's left product. -/
theorem rows3_at (d : Dev nD) (k : Fin 4) (hk : toRight k = true) (h : ℕ) (hh : h < 15) (p x : Fin 256) :
    rows3 X d h (ix2 p x) = X d (ix2 (rowOf (blk k d (h + 1)) p) x) := by
  refine read_rows (X d) _ _ (256 * ((d.val + 30 - h) % 16)) ?_ p x _ ?_
  · rw [show hop15 h = ⟨h, hh⟩ from Fin.ext (Nat.mod_eq_of_lt hh)]; exact k0_off3_eq d ⟨h, hh⟩
  · unfold rowOf blk; rw [hk]; show 256 * ((d.val + 31 - (h + 1)) % 16) + p.val = _; congr 3; omega

/-- The rows of a hop's right product. -/
theorem rows4_at (d : Dev nD) (k : Fin 4) (hk : toRight k = false) (h : ℕ) (hh : h < 15) (p x : Fin 256) :
    rows4 X d h (ix2 p x) = X d (ix2 (rowOf (blk k d (h + 1)) p) x) := by
  refine read_rows (X d) _ _ (256 * ((d.val + h + 34) % 16)) ?_ p x _ ?_
  · rw [show hop15 h = ⟨h, hh⟩ from Fin.ext (Nat.mod_eq_of_lt hh)]; exact k0_off4_eq d ⟨h, hh⟩
  · unfold rowOf blk; rw [hk]; show 256 * ((d.val + 33 + (h + 1)) % 16) + p.val = _; congr 3; omega

/-- A stream's columns of the cast weights. -/
theorem wcols_at (d : Dev nD) (k : Fin 4) (x : Fin 256) (q : Fin 512) :
    (wcols Wt d k (ix2 x q) : EReal) = num (Wt d (ix2 x (colOf k q))) := by
  refine Eq.trans ?_ (pay1_at (Wt d) (ix2 x (colOf k q)))
  refine congrArg (k0_pay1 (Wt d)) (funext fun a => Fin.ext ?_)
  fin_cases a
  · show 0 + 1 * x.val = x.val; omega
  · show 512 * k.val + 1 * q.val = 512 * k.val + q.val; omega

/-- A half of the cast weights. -/
theorem half_at (d : Dev nD) (off : ℕ) (hin : ∀ a, (![0, off] : Fin 2 → Nat) a + S256x1024.size a ≤ S256x2048.size a) (x : Fin 256)
    (q : Fin 1024) (j : Fin 2048) (hj : j.val = off + q.val) :
    ((cM.access (Rect.unit (s := S256x2048) ![0, off] S256x1024.size hin)).read (Elt Ideal) (wbf Wt d) (ix2 x q) : EReal)
      = num (Wt d (ix2 x j)) := by
  refine Eq.trans ?_ (pay1_at (Wt d) (ix2 x j))
  refine congrArg (k0_pay1 (Wt d)) (funext fun a => Fin.ext ?_)
  fin_cases a
  · show 0 + 1 * x.val = x.val; omega
  · show off + 1 * q.val = j.val; omega

/-- A column inside its half. -/
theorem inHalf_eq (p : Fin 256) (j : Fin 2048) : inHalf (ix2 p j) = ix2 p ⟨j.val % 1024, Nat.mod_lt _ (by decide)⟩ := by
  funext a; fin_cases a <;> rfl

/-- A stream's columns of a hop's own products. -/
theorem tcols_at (d : Dev nD) (k : Fin 4) (h : ℕ) (hh : h < 15) (p : Fin 256) (q : Fin 512) :
    (tcols X Wt d h k (ix2 p q) : EReal) = own X Wt d (rowOf (blk k d (h + 1)) p) (colOf k q) := by
  have he : tcols X Wt d h k (ix2 p q) = tmpF X Wt d h (ix2 p (colOf k q)) := by
    refine congrArg (tmpF X Wt d h) (funext fun a => Fin.ext ?_)
    fin_cases a
    · show 0 + 1 * p.val = p.val; omega
    · show 512 * k.val + 1 * q.val = 512 * k.val + q.val; omega
  rw [he]
  unfold tmpF
  rw [inHalf_eq]
  by_cases hl : (colOf k q).val < 1024
  · rw [if_pos (show (ix2 p (colOf k q) 1).val < 1024 from hl)]
    refine (pay8_at _ _ p _).trans (Finset.sum_congr rfl fun x _ => ?_)
    rw [rows3_at X d k ((toRight_iff k q).mpr hl) h hh]
    exact congrArg _ (half_at Wt d 0 _ x _ _ (by show (colOf k q).val = 0 + (colOf k q).val % 1024; omega))
  · rw [if_neg (show ¬ (ix2 p (colOf k q) 1).val < 1024 from hl)]
    refine (pay8_at _ _ p _).trans (Finset.sum_congr rfl fun x _ => ?_)
    rw [rows4_at X d k (Bool.eq_false_iff.mpr fun h' => hl ((toRight_iff k q).mp h')) h hh]
    exact congrArg _ (half_at Wt d 1024 _ x _ _ (by
      have := (colOf k q).isLt
      show (colOf k q).val = 1024 + (colOf k q).val % 1024; omega))

/-- One device further back, the same block a hop later. -/
theorem blk_in (k : Fin 4) (d : Dev nD) (h : ℕ) (hh : h < 15) : blk k (inD k d) h = blk k d (h + 1) := by
  have : ∀ k : Fin 4, ∀ d : Dev nD, ∀ h : Fin 15, blk k (inD k d) h.val = blk k d (h.val + 1) := by decide +kernel
  exact this k d ⟨h, hh⟩

/-- What a copy carries: the sum of the products of the devices it has come by. -/
theorem acc_at (k : Fin 4) (h : ℕ) (hh : h < 15) (d : Dev nD) (p : Fin 256) (q : Fin 512) :
    (acc X Wt k h d (ix4 0 0 p q) : EReal)
      = ∑ i ∈ Finset.range (h + 1), own X Wt ((inD k)^[i] d) (rowOf (blk k d h) p) (colOf k q) := by
  induction h generalizing d with
  | zero =>
    rw [Finset.sum_range_one]
    refine (pay3_at _ _ p q).trans (Finset.sum_congr rfl fun x _ => ?_)
    rw [rows0_at, wcols_at]; rfl
  | succ h ih =>
    rw [Finset.sum_range_succ']
    refine (pay11_at _ _ p q).trans ?_
    rw [ih (by omega), blk_in k d h (by omega), tcols_at X Wt d k h (by omega)]
    rfl

/-- Going round the ring meets every device once. -/
theorem sum_ring (k : Fin 4) (d : Dev nD) (f : Dev nD → EReal) : ∑ i ∈ Finset.range 16, f ((inD k)^[i] d) = ∑ e : Dev nD, f e := by
  have hb : ∀ k : Fin 4, ∀ d : Dev nD, Function.Injective (fun i : Fin 16 => ((inD k)^[i.val] d : Dev nD)) := by decide +kernel
  rw [Finset.sum_range]
  exact Equiv.sum_comp (Equiv.ofBijective _ ((Finite.injective_iff_bijective).mp (hb k d))) f

/-- At the last hop a device has its own block. -/
theorem blk_last (k : Fin 4) (d : Dev nD) : blk k d 15 = d := by revert k d; decide +kernel

/-- The result's element: the sum over all devices, scaled, through the gate. -/
theorem outcols_at (al : Ideal .f32) (d : Dev nD) (k : Fin 4) (p : Fin 256) (q : Fin 512) :
    (outcols X Wt al d k (ix2 p q) : EReal) = gate ((∑ e : Dev nD, own X Wt e (rowOf d p) (colOf k q)) * al) := by
  refine (pay122_at al _ _ p q).trans ?_
  rw [acc_at X Wt k 14 (by omega), blk_in k d 14 (by omega), tcols_at X Wt d k 14 (by omega), blk_last,
    ← sum_ring k d (fun e => own X Wt e (rowOf d p) (colOf k q)), Finset.sum_range_succ' _ 15]
  rfl

end Sums

end Cert.KernelIdeal.Hand

end
-- ==== Proof.Ref.lean ====
/- The reference's result, element by element, and that the devices' results are its blocks. -/
module

public import proofs.«01_k».proof.Proof.Value
public import proofs.«01_k».proof.Proof.Frames

@[expose] public section

set_option maxRecDepth 100000

noncomputable section

namespace Cert.KernelIdeal.Hand

open Cert.KernelIdeal Cert.KernelIdeal.Gen
open Idealize.ShloMosaic
open Idealize.ShloMosaic.TcCoe
open Idealize.SL.Sem
open scoped BigOperators

/-- The reference's result of the whole arrays. -/
def refV (x : Vec Ideal Cert.ReferenceIdeal.S4096x4096 .i8) (w : Vec Ideal Cert.ReferenceIdeal.S4096x2048 .i8)
    (a b : Vec Ideal Cert.ReferenceIdeal.S1 .f32) : Vec Ideal Cert.ReferenceIdeal.S4096x2048 .f32 := fun i =>
  gate ((∑ z : Fin 4096, num (x (ix2 (i 0) z)) * num (w (ix2 z (i 1)))) * (a (ix1 0) * b (ix1 0)))

/-- Widening an eight-bit integer keeps its value. -/
theorem num_wide (b : BitVec 8) : (FloatOps.sitofp .f32 (BitVec.signExtend 32 b) : Ideal .f32) = num b := by
  have h : (BitVec.signExtend 32 b).toInt = b.toInt := BitVec.toInt_signExtend_of_le (by decide)
  show (((BitVec.signExtend 32 b).toInt : ℝ) : EReal) = ((b.toInt : ℝ) : EReal)
  rw [h]

/-- A run of the reference over the extended reals. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r =>
      ∀ c : Dev Cert.ReferenceIdeal.nD,
        r.2.mem (c.tc.loc Cert.ReferenceIdeal.main_v14)
          = refV (m (c.tc.loc Cert.ReferenceIdeal.main_arg0)) (m (c.tc.loc Cert.ReferenceIdeal.main_arg1))
              (m (c.tc.loc Cert.ReferenceIdeal.main_arg2)) (m (c.tc.loc Cert.ReferenceIdeal.main_arg3))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)) := by
  refine (θ_run Cert.ReferenceIdeal.defs _ _).mono (fun r h c => ⟨(h c).1.trans ?_, (h c).2⟩) (Cert.ReferenceIdeal.Value.run (F := Ideal) m ρ)
  generalize m (c.tc.loc Cert.ReferenceIdeal.main_arg0) = x
  generalize m (c.tc.loc Cert.ReferenceIdeal.main_arg1) = w
  generalize m (c.tc.loc Cert.ReferenceIdeal.main_arg2) = a
  generalize m (c.tc.loc Cert.ReferenceIdeal.main_arg3) = b
  funext i
  pointwise [refV, gate]
  simp only [num_wide]
  rfl

/-! ### The devices' results are the reference's blocks -/

/-- Reading a window of the launch reads the whole array: `x`. -/
theorem inX_eq {F : FTy → Type} [FloatOps F] (m : (ℓ : Loc nD τ sig) → Buf (Elt F) ℓ) (ρ : Dev nD → PrngReg) (c : Dev nD) :
    inX m ρ c = m ((c : Thread nD τ).loc main_arg0) :=
  Memref.read_access_unit_zero (Elt F) main_arg0 (funext fun a => by fin_cases a <;> decide) (fun a => by fin_cases a <;> decide) _
/-- The weights. -/
theorem inW_eq {F : FTy → Type} [FloatOps F] (m : (ℓ : Loc nD τ sig) → Buf (Elt F) ℓ) (ρ : Dev nD → PrngReg) (c : Dev nD) :
    inW m ρ c = m ((c : Thread nD τ).loc main_arg1) :=
  Memref.read_access_unit_zero (Elt F) main_arg1 (funext fun a => by fin_cases a <;> decide) (fun a => by fin_cases a <;> decide) _
/-- The first scale. -/
theorem inA_eq {F : FTy → Type} [FloatOps F] (m : (ℓ : Loc nD τ sig) → Buf (Elt F) ℓ) (ρ : Dev nD → PrngReg) (c : Dev nD) :
    inA m ρ c = m ((c : Thread nD τ).loc main_arg2) :=
  Memref.read_access_unit_zero (Elt F) main_arg2 (funext fun a => by fin_cases a <;> decide) (fun a => by fin_cases a <;> decide) _
/-- The second scale. -/
theorem inB_eq {F : FTy → Type} [FloatOps F] (m : (ℓ : Loc nD τ sig) → Buf (Elt F) ℓ) (ρ : Dev nD → PrngReg) (c : Dev nD) :
    inB m ρ c = m ((c : Thread nD τ).loc main_arg3) :=
  Memref.read_access_unit_zero (Elt F) main_arg3 (funext fun a => by fin_cases a <;> decide) (fun a => by fin_cases a <;> decide) _

/-- What a run leaves in the result. -/
theorem out_eq {F : FTy → Type} [FloatOps F] (m : (ℓ : Loc nD τ sig) → Buf (Elt F) ℓ) (ρ : Dev nD → PrngReg)
    (r : PUnit × MemSt nD τ sig (Elt F)) (h : QC m ρ r) (c : Dev nD) :
    r.2.mem ((c : Thread nD τ).loc main_v1) = outV m ρ c := by
  refine Eq.trans (Memref.read_access_unit_zero (Elt F) main_v1 (off := fun a => win0_4.index (0 : Fin 1) a * main_v1.ty.shape.size a)
    (funext fun a => by fin_cases a <;> decide) (fun a => by fin_cases a <;> decide) _).symm ?_
  have hr : r.2.mem ((c : Thread nD τ).loc main_v1) = (dats m ρ 0 c).arrAt (4 : Fin 5) cfg0.N := h c (4 : Fin 5)
  rw [hr]
  show (win0_4.blk (0 : Fin 1)).view.read (Elt F) ((dats m ρ 0 c).arrAt (4 : Fin 5) cfg0.N) = outV m ρ c
  rw [show cfg0.N = ((0 : Fin 1) : Fin cfg0.N).val + 1 from rfl, (dats m ρ 0 c).arrAt_succ (4 : Fin 5) (0 : Fin 1)]
  rw [show (cfg0.win 4).flush (0 : Fin 1) = true from by decide, if_pos rfl]
  exact View.read_write_univ _ _

/-- The scales' product. -/
theorem alpha_eq (f g : Vec Ideal S1 .f32) : (alphaOf f g : EReal) = f (ix1 0) * g (ix1 0) := by
  have h1 : ∀ i j : S1.Idx, i = j := fun i j => funext fun a => Fin.ext (by
    have hi : (i a).val < S1.size a := (i a).isLt
    have hj : (j a).val < S1.size a := (j a).isLt
    have hs : S1.size a = 1 := by fin_cases a; rfl
    omega)
  unfold alphaOf
  refine Eq.trans (b := (f _ : EReal) * g _) rfl ?_
  exact congrArg₂ (fun x y : EReal => x * y) (congrArg f (h1 _ _)) (congrArg g (h1 _ _))

/-- A device's result is its block of the reference's. -/
theorem out_block (x : Vec Ideal Cert.ReferenceIdeal.S4096x4096 .i8) (w : Vec Ideal Cert.ReferenceIdeal.S4096x2048 .i8)
    (a b : Vec Ideal Cert.ReferenceIdeal.S1 .f32) (c : Dev nD) :
    outF (F := Ideal) (fun d => Layout.block ⟨2, ![4096, 256]⟩ ⟨2, ![4096, 4096]⟩ 1 16 d x)
      (fun d => Layout.block ⟨2, ![256, 2048]⟩ ⟨2, ![4096, 2048]⟩ 0 16 d w) (alphaOf a b) c
      = Layout.block ⟨2, ![256, 2048]⟩ ⟨2, ![4096, 2048]⟩ 0 16 c (refV x w a b) := by
  funext i
  have h1 : (i 1).val < 2048 := (i 1).isLt
  have hi : (Fin.cons (i 0) (Fin.cons ⟨(i 1).val % 512, Nat.mod_lt _ (by decide)⟩ (fun a => a.elim0)) : S256x512.Idx)
      = ix2 (i 0) ⟨(i 1).val % 512, Nat.mod_lt _ (by decide)⟩ := by
    funext a; fin_cases a <;> rfl
  have hc : colOf ⟨(i 1).val / 512 % 4, Nat.mod_lt _ (by decide)⟩ ⟨(i 1).val % 512, Nat.mod_lt _ (by decide)⟩ = i 1 := Fin.ext (by
    show 512 * ((i 1).val / 512 % 4) + (i 1).val % 512 = (i 1).val; omega)
  unfold outF
  rw [hi]
  refine (outcols_at _ _ _ c _ (i 0) _).trans ?_
  rw [hc, alpha_eq]
  refine congrArg (fun s : EReal => gate (s * (a (ix1 0) * b (ix1 0)))) ?_
  refine Eq.trans ?_ (Fin.sum_univ_tiles 16 256 (by decide) _).symm
  refine Finset.sum_congr rfl fun e _ => Finset.sum_congr rfl fun z _ => ?_
  refine congrArg₂ (fun u v : BitVec 8 => num u * num v) (congrArg x ?_) (congrArg w ?_)
  · funext t; refine Fin.ext ?_
    fin_cases t
    · show 256 * c.val + (i 0).val = c.val * 256 + (i 0).val; omega
    · rfl
  · funext t; refine Fin.ext ?_
    fin_cases t <;> rfl

/-- The devices' results are the blocks of the reference's result, and both programs keep their arguments. -/
theorem algebraic_claim : Cert.algebraic_KernelIdeal_ReferenceIdeal := by
  intro m g m' g' _ h
  refine ⟨refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run defs _ _).mono (fun r hr c => ⟨(out_eq m g r hr.1 c).trans ?_, args_kept m g r hr.1 c⟩) (run_main (F := Ideal) m g)
    have hX : inX m g = fun d => Layout.block ⟨2, ![4096, 256]⟩ ⟨2, ![4096, 4096]⟩ 1 16 d _ := funext fun d => (inX_eq m g d).trans (h d).1
    have hW : inW m g = fun d => Layout.block ⟨2, ![256, 2048]⟩ ⟨2, ![4096, 2048]⟩ 0 16 d _ := funext fun d => (inW_eq m g d).trans (h d).2.1
    unfold outV
    rw [hX, hW, inA_eq, inB_eq, (h c).2.2.1, (h c).2.2.2]
    exact out_block _ _ _ _ c
  · exact (θ_run Cert.ReferenceIdeal.defs _ _).mono (fun r hr => hr 0) (ref_run m' g')

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Ref
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts, Cert.KernelIdeal.Hand.frame_kernel, Cert.KernelIdeal.Hand.frame_kernel_ideal, Cert.KernelIdeal.Hand.frame_reference, trivial,
  Cert.KernelIdeal.Hand.algebraic_claim⟩

end Cert.Proof

end
